-- ==== Defs.lean ====
def Pre_Kernel [hPre_breaks_fit : Cert.Pre_breaks_fit.Facts] (m : (ℓ : Loc Cert.Kernel.nD Cert.Kernel.τ Cert.Kernel.sig) → Buf (Elt Bits) ℓ) : Prop :=
  ∀ c : Dev Cert.Kernel.nD,
    (Cert.Pre_breaks_fit.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_breaks_fit : Cert.Pre_breaks_fit.Facts] (m : (ℓ : Loc Cert.KernelIdeal.nD Cert.KernelIdeal.τ Cert.KernelIdeal.sig) → Buf (Elt Ideal) ℓ) : Prop :=
  ∀ c : Dev Cert.KernelIdeal.nD,
    (Cert.Pre_breaks_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_breaks_fit [hPre_breaks_fit : Cert.Pre_breaks_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_breaks_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_breaks_fit : Cert.Pre_breaks_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_breaks_fit : Cert.Pre_breaks_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_breaks_fit [hReferenceIdeal : Cert.ReferenceIdeal.Facts] [hPre_breaks_fit : Cert.Pre_breaks_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_breaks_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_breaks_fit : Cert.Pre_breaks_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_breaks_fit : Cert.Pre_breaks_fit.Facts),
    quiescent_Kernel (hKernel := hKernel) (hPre_breaks_fit := hPre_breaks_fit)
    ∧ quiescent_KernelIdeal (hKernelIdeal := hKernelIdeal) (hPre_breaks_fit := hPre_breaks_fit)
    ∧ quiescent_ReferenceIdeal (hReferenceIdeal := hReferenceIdeal)
    ∧ quiescent_ReferenceIdeal_pre_breaks_fit (hReferenceIdeal := hReferenceIdeal) (hPre_breaks_fit := hPre_breaks_fit)
    ∧ preserves_Kernel_KernelIdeal
    ∧ algebraic_KernelIdeal_ReferenceIdeal (hKernelIdeal := hKernelIdeal) (hReferenceIdeal := hReferenceIdeal) (hPre_breaks_fit := hPre_breaks_fit)
-- ==== Pre_breaks_fit.lean ====
abbrev S4096x200 : Shape := ⟨2, ![4096, 200]⟩
abbrev S34 : Shape := ⟨1, ![34]⟩
abbrev S1 : Shape := ⟨1, ![1]⟩
abbrev S_ : Shape := ⟨0, ![]⟩
abbrev S33 : Shape := ⟨1, ![33]⟩
abbrev S31 : Shape := ⟨1, ![31]⟩

class Facts : Prop where
  slices_S34_S1_0 : S34.Slices ![0] S1
  shapeCasts_S1_S_ : S1.ShapeCasts S_
  bcast_S_S4096x200 : S_.BroadcastsInDim S4096x200 (![] : Fin 0 → Fin S4096x200.rank)
  slices_S34_S1_33 : S34.Slices ![33] S1
  slices_S34_S33_0 : S34.Slices ![0] S33
  slices_S34_S33_1 : S34.Slices ![1] S33
  slices_S34_S31_2 : S34.Slices ![2] S31
  bcast_S_S31 : S_.BroadcastsInDim S31 (![] : Fin 0 → Fin S31.rank)
  slices_S34_S31_1 : S34.Slices ![1] S31
  reducesTo_S33_S_d0 : S33.ReducesTo [0] S_
  h_S_ : 0 < S_.numel
  reducesTo_S31_S_d0 : S31.ReducesTo [0] S_

variable [Facts]

def fn_part1 {F : FTy → Type} [FloatOps F] (main_v11 : IVec S4096x200 1) (main_v14 : IVec S33 1) (main_v15 : FVec F S31 .f32) (main_v19 : IVec S31 1) (main_v20 : FVec F S31 .f32) (main_cst_1 : FVec F S_ .f32) : IVec S4096x200 1 :=
  let main_v21 : FVec F S31 .f32 := broadcastInDim S31 ![] bcast_S_S31 main_cst_1
  let main_v22 : FVec F S31 .f32 := mulf main_v20 main_v21
  let main_cst_2 : FVec F S_ .f32 := constant S_ .f32 0x3F800000#32
  let main_v23 : FVec F S31 .f32 := broadcastInDim S31 ![] bcast_S_S31 main_cst_2
  let main_v24 : FVec F S31 .f32 := addf main_v15 main_v23
  let main_v25 : IVec S31 1 := cmpf .ogt main_v22 main_v24
  let main_v26 : IVec S4096x200 1 := noti main_v11
  let main_v27 : IVec S33 1 := noti main_v14
  let main_c : IVec S_ 1 := constantI S_ 1 1#1
  let main_v28 : IVec S_ 1 := (fun x v => Host.reduce IntOp.andi x v reducesTo_S33_S_d0 h_S_) main_v27 main_c
  let main_v29 : IVec S4096x200 1 := broadcastInDim S4096x200 ![] bcast_S_S4096x200 main_v28
  let main_v30 : IVec S4096x200 1 := andi main_v26 main_v29
  let main_v31 : IVec S31 1 := noti main_v19
  let main_c_3 : IVec S_ 1 := constantI S_ 1 1#1
  let main_v32 : IVec S_ 1 := (fun x v => Host.reduce IntOp.andi x v reducesTo_S31_S_d0 h_S_) main_v31 main_c_3
  let main_v33 : IVec S4096x200 1 := broadcastInDim S4096x200 ![] bcast_S_S4096x200 main_v32
  let main_v34 : IVec S4096x200 1 := andi main_v30 main_v33
  let main_v35 : IVec S31 1 := noti main_v25
  let main_c_4 : IVec S_ 1 := constantI S_ 1 1#1
  let main_v36 : IVec S_ 1 := (fun x v => Host.reduce IntOp.andi x v reducesTo_S31_S_d0 h_S_) main_v35 main_c_4
  let main_v37 : IVec S4096x200 1 := broadcastInDim S4096x200 ![] bcast_S_S4096x200 main_v36
  let main_v38 : IVec S4096x200 1 := andi main_v34 main_v37
  main_v38

def fn {F : FTy → Type} [FloatOps F] (main_arg0 : FVec F S4096x200 .f32) (main_arg1 : FVec F S34 .f32) : IVec S4096x200 1 :=
  let main_v0 : FVec F S1 .f32 := (extractStridedSlice S1 ![0] · slices_S34_S1_0) main_arg1
  let main_v1 : FVec F S_ .f32 := shapeCast S_ main_v0 shapeCasts_S1_S_
  let main_v2 : FVec F S4096x200 .f32 := broadcastInDim S4096x200 ![] bcast_S_S4096x200 main_v1
  let main_v3 : IVec S4096x200 1 := cmpf .ogt main_v2 main_arg0
  let main_v4 : FVec F S1 .f32 := (extractStridedSlice S1 ![33] · slices_S34_S1_33) main_arg1
  let main_v5 : FVec F S_ .f32 := shapeCast S_ main_v4 shapeCasts_S1_S_
  let main_v6 : FVec F S4096x200 .f32 := broadcastInDim S4096x200 ![] bcast_S_S4096x200 main_v5
  let main_v7 : IVec S4096x200 1 := cmpf .ole main_v6 main_arg0
  let main_v8 : IVec S4096x200 1 := ori main_v3 main_v7
  let main_cst : FVec F S_ .f32 := constant S_ .f32 0x4C842108#32
  let main_v9 : FVec F S4096x200 .f32 := broadcastInDim S4096x200 ![] bcast_S_S4096x200 main_cst
  let main_v10 : IVec S4096x200 1 := cmpf .ogt main_arg0 main_v9
  let main_v11 : IVec S4096x200 1 := ori main_v8 main_v10
  let main_v12 : FVec F S33 .f32 := (extractStridedSlice S33 ![0] · slices_S34_S33_0) main_arg1
  let main_v13 : FVec F S33 .f32 := (extractStridedSlice S33 ![1] · slices_S34_S33_1) main_arg1
  let main_v14 : IVec S33 1 := cmpf .ogt main_v12 main_v13
  let main_v15 : FVec F S31 .f32 := sitofp .f32 (iotaInDim S31 32 0)
  let main_v16 : FVec F S31 .f32 := (extractStridedSlice S31 ![2] · slices_S34_S31_2) main_arg1
  let main_cst_0 : FVec F S_ .f32 := constant S_ .f32 0x41F80000#32
  let main_v17 : FVec F S31 .f32 := broadcastInDim S31 ![] bcast_S_S31 main_cst_0
  let main_v18 : FVec F S31 .f32 := mulf main_v16 main_v17
  let main_v19 : IVec S31 1 := cmpf .olt main_v18 main_v15
  let main_v20 : FVec F S31 .f32 := (extractStridedSlice S31 ![1] · slices_S34_S31_1) main_arg1
  let main_cst_1 : FVec F S_ .f32 := constant S_ .f32 0x41F80000#32
  fn_part1 (F := F) main_v11 main_v14 main_v15 main_v19 main_v20 main_cst_1
-- ==== Kernel.lean ====
abbrev S4096x200 : Shape := ⟨2, ![4096, 200]⟩
abbrev S34 : Shape := ⟨1, ![34]⟩
abbrev S_ : Shape := ⟨0, ![]⟩
abbrev S14 : Shape := ⟨1, ![14]⟩
abbrev S48 : Shape := ⟨1, ![48]⟩
abbrev S32x128x25x8 : Shape := ⟨4, ![32, 128, 25, 8]⟩
abbrev S25x32x8x128 : Shape := ⟨4, ![25, 32, 8, 128]⟩
abbrev S33x25x32x8x128 : Shape := ⟨5, ![33, 25, 32, 8, 128]⟩
abbrev S33x1x1x8x128 : Shape := ⟨5, ![33, 1, 1, 8, 128]⟩
abbrev S25x1x8x128 : Shape := ⟨4, ![25, 1, 8, 128]⟩
abbrev S1024 : Shape := ⟨1, ![1024]⟩
abbrev S16 : Shape := ⟨1, ![16]⟩
abbrev S1x1x1x16 : Shape := ⟨4, ![1, 1, 1, 16]⟩
abbrev S32x128x25x8x33 : Shape := ⟨5, ![32, 128, 25, 8, 33]⟩
abbrev S4096x200x33 : Shape := ⟨3, ![4096, 200, 33]⟩

abbrev nBuf : Table → Nat
  | .hbm => 10
  | .local .scVector .vmem => 6
  | _ => 0

abbrev bufTy : (tb : Table) → Fin (nBuf tb) → BufTy
  | .hbm, ⟨0, _⟩ => ⟨S4096x200, .f32⟩
  | .hbm, ⟨1, _⟩ => ⟨S34, .f32⟩
  | .hbm, ⟨2, _⟩ => ⟨S_, .f32⟩
  | .hbm, ⟨3, _⟩ => ⟨S14, .f32⟩
  | .hbm, ⟨4, _⟩ => ⟨S48, .f32⟩
  | .hbm, ⟨5, _⟩ => ⟨S32x128x25x8, .f32⟩
  | .hbm, ⟨6, _⟩ => ⟨S25x32x8x128, .f32⟩
  | .hbm, ⟨7, _⟩ => ⟨S33x25x32x8x128, .f32⟩
  | .hbm, ⟨8, _⟩ => ⟨S32x128x25x8x33, .f32⟩
  | .hbm, ⟨9, _⟩ => ⟨S4096x200x33, .f32⟩
  | .local .scVector .vmem, ⟨0, _⟩ => ⟨S33x1x1x8x128, .f32⟩
  | .local .scVector .vmem, ⟨1, _⟩ => ⟨S33x1x1x8x128, .f32⟩
  | .local .scVector .vmem, ⟨2, _⟩ => ⟨S25x1x8x128, .f32⟩
  | .local .scVector .vmem, ⟨3, _⟩ => ⟨S1024, .i32⟩
  | .local .scVector .vmem, ⟨4, _⟩ => ⟨S1024, .i32⟩
  | .local .scVector .vmem, ⟨5, _⟩ => ⟨S48, .f32⟩
  | _, _ => ⟨S4096x200, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v3_scv : Ref sig .scVector := ⟨.hbm, 6, rfl⟩
abbrev main_v1_scv : Ref sig .scVector := ⟨.hbm, 4, rfl⟩
abbrev main_v4_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 4 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let c0_i32_1 : BitVec 32 := 0#32
  ![0, v1.toNat, 0, 0]
@[reducible] def k0_t1_loop : Scf.Loop 32 :=
  let c0_i32_7 : BitVec 32 := 0#32
  let c2112_i32 : BitVec 32 := 2112#32
  let v8 : BitVec 32 := Scalar.addi c0_i32_7 c2112_i32
  let c1_i32 : BitVec 32 := 1#32
  ⟨c0_i32_7, v8, c1_i32⟩

def k0_chk1 (v7 : IVec S16 32) (v28 : IVec S16 32) (v32 : IVec S16 32) (v34 : IVec S16 32) : Prop :=
  (∀ a x, ((![v28, v7, v7, v32, v34] : Fin 5 → IVec S16 32) a x).toNat < S33x1x1x8x128.size a) ∧
  (∀ a x, ((![v28, v7, v7, v32, v34] : Fin 5 → IVec S16 32) a x).toNat < S33x1x1x8x128.size a)
theorem k0_idx1_inb : ∀ (v7 : IVec S16 32) (v28 : IVec S16 32) (v32 : IVec S16 32) (v34 : IVec S16 32) (k0_hw1 : k0_chk1 v7 v28 v32 v34), ∀ a x, ((![v28, v7, v7, v32, v34] : Fin 5 → IVec S16 32) a x).toNat < S33x1x1x8x128.size a := fun v7 v28 v32 v34 k0_hw1 => k0_hw1.1
theorem k0_idx2_inb : ∀ (v7 : IVec S16 32) (v28 : IVec S16 32) (v32 : IVec S16 32) (v34 : IVec S16 32) (k0_hw1 : k0_chk1 v7 v28 v32 v34), ∀ a x, ((![v28, v7, v7, v32, v34] : Fin 5 → IVec S16 32) a x).toNat < S33x1x1x8x128.size a := fun v7 v28 v32 v34 k0_hw1 => k0_hw1.2
@[reducible] def k0_t2_loop : Scf.Loop 32 :=
  let c0_i32_18 : BitVec 32 := 0#32
  let c12_i32 : BitVec 32 := 12#32
  let v11 : BitVec 32 := Scalar.addi c0_i32_18 c12_i32
  let c1_i32_19 : BitVec 32 := 1#32
  ⟨c0_i32_18, v11, c1_i32_19⟩
def k0_cond1 (k0_t2 : Fin k0_t2_loop.trips) : BitVec 1 :=
  let c2_i32_65 : BitVec 32 := 2#32
  let c0_i32_18 : BitVec 32 := 0#32
  let c1_i32_19 : BitVec 32 := 1#32
  let arg14 : BitVec 32 := Scf.iv c0_i32_18 c1_i32_19 k0_t2
  let v22 : BitVec 32 := Scalar.muli c2_i32_65 arg14
  let c0_i32_66 : BitVec 32 := 0#32
  let v23 : BitVec 32 := Scalar.addi v22 c0_i32_66
  let c2_i32_67 : BitVec 32 := 2#32
  let v24 : BitVec 1 := Scalar.cmpi .sge v23 c2_i32_67
  let v25 : BitVec 32 := Scalar.extui v24
  let c0_i32_68 : BitVec 32 := 0#32
  let v26 : BitVec 1 := Scalar.cmpi .ne v25 c0_i32_68
  v26

@[reducible] def k0_t3_loop : Scf.Loop 32 :=
  let c0_i32_103 : BitVec 32 := 0#32
  let c64_i32_104 : BitVec 32 := 64#32
  let v40 : BitVec 32 := Scalar.addi c0_i32_103 c64_i32_104
  let c1_i32_105 : BitVec 32 := 1#32
  ⟨c0_i32_103, v40, c1_i32_105⟩
def k0_off2 (k0_t3 : Fin k0_t3_loop.trips) : Fin 1 → Nat :=
  let c0_i32_108 : BitVec 32 := 0#32
  let c0_i32_103 : BitVec 32 := 0#32
  let c1_i32_105 : BitVec 32 := 1#32
  let arg15 : BitVec 32 := Scf.iv c0_i32_103 c1_i32_105 k0_t3
  let c1_i32_107 : BitVec 32 := 1#32
  let v41 : BitVec 32 := Scalar.muli arg15 c1_i32_107
  let v42 : BitVec 32 := Scalar.addi c0_i32_108 v41
  let c16_i32_109 : BitVec 32 := 16#32
  let v50 : BitVec 32 := Scalar.muli v42 c16_i32_109
  let v51 : Index := Scalar.indexCast v50
  ![v51.toNat]

def k0_chk2 (v7 : IVec S16 32) (k0_t2 : Fin k0_t2_loop.trips) (v45 : IVec S16 32) (v49 : IVec S16 32) (v52 : IVec S16 32) : Prop :=
  (∀ (k0_h1 : k0_cond1 k0_t2 = 1#1), ∀ a x, ((![v52, v7, v7, v45, v49] : Fin 5 → IVec S16 32) a x).toNat < S33x1x1x8x128.size a)
theorem k0_idx3_inb : ∀ (v7 : IVec S16 32) (k0_t2 : Fin k0_t2_loop.trips) (v45 : IVec S16 32) (v49 : IVec S16 32) (v52 : IVec S16 32) (k0_hw2 : k0_chk2 v7 k0_t2 v45 v49 v52), ∀ (k0_h1 : k0_cond1 k0_t2 = 1#1), ∀ a x, ((![v52, v7, v7, v45, v49] : Fin 5 → IVec S16 32) a x).toNat < S33x1x1x8x128.size a := fun v7 k0_t2 v45 v49 v52 k0_hw2 k0_h1 => k0_hw2 k0_h1
@[reducible] def k0_t4_loop : Scf.Loop 32 :=
  let c0_i32_69 : BitVec 32 := 0#32
  let c64_i32_70 : BitVec 32 := 64#32
  let v27 : BitVec 32 := Scalar.addi c0_i32_69 c64_i32_70
  let c1_i32_71 : BitVec 32 := 1#32
  ⟨c0_i32_69, v27, c1_i32_71⟩
def k0_off3 (k0_t2 : Fin k0_t2_loop.trips) (k0_t4 : Fin k0_t4_loop.trips) : Fin 4 → Nat :=
  let c2_i32_65 : BitVec 32 := 2#32
  let c0_i32_18 : BitVec 32 := 0#32
  let c1_i32_19 : BitVec 32 := 1#32
  let arg14 : BitVec 32 := Scf.iv c0_i32_18 c1_i32_19 k0_t2
  let v22 : BitVec 32 := Scalar.muli c2_i32_65 arg14
  let c0_i32_66 : BitVec 32 := 0#32
  let v23 : BitVec 32 := Scalar.addi v22 c0_i32_66
  let v43 : Index := Scalar.indexCast v23
  let c0_i32_95 : BitVec 32 := 0#32
  let v44 : Index := Scalar.indexCast c0_i32_95
  let c0_i32_94 : BitVec 32 := 0#32
  let c0_i32_69 : BitVec 32 := 0#32
  let c1_i32_71 : BitVec 32 := 1#32
  let arg15 : BitVec 32 := Scf.iv c0_i32_69 c1_i32_71 k0_t4
  let c1_i32_93 : BitVec 32 := 1#32
  let v38 : BitVec 32 := Scalar.muli arg15 c1_i32_93
  let v39 : BitVec 32 := Scalar.addi c0_i32_94 v38
  let c3_i32 : BitVec 32 := 3#32
  let v40 : BitVec 32 := Scalar.shrsi v39 c3_i32
  let v45 : Index := Scalar.indexCast v40
  let c7_i32 : BitVec 32 := 7#32
  let v41 : BitVec 32 := Scalar.andi v39 c7_i32
  let c16_i32 : BitVec 32 := 16#32
  let v42 : BitVec 32 := Scalar.muli v41 c16_i32
  let v46 : Index := Scalar.indexCast v42
  ![v43.toNat, 0, v45.toNat, v46.toNat]

def k0_chk3 (v58 : IVec S16 32) : Prop :=
  (∀ a x, ((![v58] : Fin 1 → IVec S16 32) a x).toNat < S48.size a)
theorem k0_idx4_inb : ∀ (v58 : IVec S16 32) (k0_hw3 : k0_chk3 v58), ∀ a x, ((![v58] : Fin 1 → IVec S16 32) a x).toNat < S48.size a := fun v58 k0_hw3 => k0_hw3

def k0_chk4 (v56 : IVec S16 32) : Prop :=
  (∀ a x, ((![v56] : Fin 1 → IVec S16 32) a x).toNat < S48.size a)
theorem k0_idx5_inb : ∀ (v56 : IVec S16 32) (k0_hw4 : k0_chk4 v56), ∀ a x, ((![v56] : Fin 1 → IVec S16 32) a x).toNat < S48.size a := fun v56 k0_hw4 => k0_hw4

def k0_chk5 (v7 : IVec S16 32) (v66 : IVec S16 32) (v69 : IVec S16 32) (v73 : IVec S16 32) : Prop :=
  (∀ a x, ((![v66, v7, v7, v69, v73] : Fin 5 → IVec S16 32) a x).toNat < S33x1x1x8x128.size a)
theorem k0_idx6_inb : ∀ (v7 : IVec S16 32) (v66 : IVec S16 32) (v69 : IVec S16 32) (v73 : IVec S16 32) (k0_hw5 : k0_chk5 v7 v66 v69 v73), ∀ a x, ((![v66, v7, v7, v69, v73] : Fin 5 → IVec S16 32) a x).toNat < S33x1x1x8x128.size a := fun v7 v66 v69 v73 k0_hw5 => k0_hw5
def k0_off4 (k0_t4 : Fin k0_t4_loop.trips) : Fin 1 → Nat :=
  let c0_i32_94 : BitVec 32 := 0#32
  let c0_i32_69 : BitVec 32 := 0#32
  let c1_i32_71 : BitVec 32 := 1#32
  let arg15 : BitVec 32 := Scf.iv c0_i32_69 c1_i32_71 k0_t4
  let c1_i32_93 : BitVec 32 := 1#32
  let v38 : BitVec 32 := Scalar.muli arg15 c1_i32_93
  let v39 : BitVec 32 := Scalar.addi c0_i32_94 v38
  let c16_i32_103 : BitVec 32 := 16#32
  let v74 : BitVec 32 := Scalar.muli v39 c16_i32_103
  let v75 : Index := Scalar.indexCast v74
  ![v75.toNat]
def k0_off5 (i : grid0.Coords) (k0_t2 : Fin k0_t2_loop.trips) (c0_i32_66 : BitVec 32) : Fin 5 → Nat :=
  let c0_i32_73 : BitVec 32 := 0#32
  let c2_i32_65 : BitVec 32 := 2#32
  let c0_i32_18 : BitVec 32 := 0#32
  let c1_i32_19 : BitVec 32 := 1#32
  let arg14 : BitVec 32 := Scf.iv c0_i32_18 c1_i32_19 k0_t2
  let v22 : BitVec 32 := Scalar.muli c2_i32_65 arg14
  let v23 : BitVec 32 := Scalar.addi v22 c0_i32_66
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_74 : BitVec 32 := 0#32
  let c0_i32_75 : BitVec 32 := 0#32
  ![0, v23.toNat, v1.toNat, 0, 0]
def k0_cond2 (k0_t2 : Fin k0_t2_loop.trips) : BitVec 1 :=
  let c2_i32_79 : BitVec 32 := 2#32
  let c0_i32_18 : BitVec 32 := 0#32
  let c1_i32_19 : BitVec 32 := 1#32
  let arg14 : BitVec 32 := Scf.iv c0_i32_18 c1_i32_19 k0_t2
  let v30 : BitVec 32 := Scalar.muli c2_i32_79 arg14
  let c1_i32_80 : BitVec 32 := 1#32
  let v31 : BitVec 32 := Scalar.addi v30 c1_i32_80
  let c2_i32_81 : BitVec 32 := 2#32
  let v32 : BitVec 1 := Scalar.cmpi .sge v31 c2_i32_81
  let v33 : BitVec 32 := Scalar.extui v32
  let c0_i32_82 : BitVec 32 := 0#32
  let v34 : BitVec 1 := Scalar.cmpi .ne v33 c0_i32_82
  v34

@[reducible] def k0_t5_loop : Scf.Loop 32 :=
  let c0_i32_103 : BitVec 32 := 0#32
  let c64_i32_104 : BitVec 32 := 64#32
  let v40 : BitVec 32 := Scalar.addi c0_i32_103 c64_i32_104
  let c1_i32_105 : BitVec 32 := 1#32
  ⟨c0_i32_103, v40, c1_i32_105⟩
def k0_off6 (k0_t5 : Fin k0_t5_loop.trips) : Fin 1 → Nat :=
  let c0_i32_108 : BitVec 32 := 0#32
  let c0_i32_103 : BitVec 32 := 0#32
  let c1_i32_105 : BitVec 32 := 1#32
  let arg15 : BitVec 32 := Scf.iv c0_i32_103 c1_i32_105 k0_t5
  let c1_i32_107 : BitVec 32 := 1#32
  let v41 : BitVec 32 := Scalar.muli arg15 c1_i32_107
  let v42 : BitVec 32 := Scalar.addi c0_i32_108 v41
  let c16_i32_109 : BitVec 32 := 16#32
  let v50 : BitVec 32 := Scalar.muli v42 c16_i32_109
  let v51 : Index := Scalar.indexCast v50
  ![v51.toNat]

def k0_chk6 (v7 : IVec S16 32) (k0_t2 : Fin k0_t2_loop.trips) (v45 : IVec S16 32) (v49 : IVec S16 32) (v52 : IVec S16 32) : Prop :=
  (∀ (k0_h2 : k0_cond2 k0_t2 = 1#1), ∀ a x, ((![v52, v7, v7, v45, v49] : Fin 5 → IVec S16 32) a x).toNat < S33x1x1x8x128.size a)
theorem k0_idx7_inb : ∀ (v7 : IVec S16 32) (k0_t2 : Fin k0_t2_loop.trips) (v45 : IVec S16 32) (v49 : IVec S16 32) (v52 : IVec S16 32) (k0_hw6 : k0_chk6 v7 k0_t2 v45 v49 v52), ∀ (k0_h2 : k0_cond2 k0_t2 = 1#1), ∀ a x, ((![v52, v7, v7, v45, v49] : Fin 5 → IVec S16 32) a x).toNat < S33x1x1x8x128.size a := fun v7 k0_t2 v45 v49 v52 k0_hw6 k0_h2 => k0_hw6 k0_h2
@[reducible] def k0_t6_loop : Scf.Loop 32 :=
  let c0_i32_83 : BitVec 32 := 0#32
  let c64_i32_84 : BitVec 32 := 64#32
  let v35 : BitVec 32 := Scalar.addi c0_i32_83 c64_i32_84
  let c1_i32_85 : BitVec 32 := 1#32
  ⟨c0_i32_83, v35, c1_i32_85⟩
def k0_off7 (k0_t2 : Fin k0_t2_loop.trips) (k0_t6 : Fin k0_t6_loop.trips) : Fin 4 → Nat :=
  let c2_i32_79 : BitVec 32 := 2#32
  let c0_i32_18 : BitVec 32 := 0#32
  let c1_i32_19 : BitVec 32 := 1#32
  let arg14 : BitVec 32 := Scf.iv c0_i32_18 c1_i32_19 k0_t2
  let v30 : BitVec 32 := Scalar.muli c2_i32_79 arg14
  let c1_i32_80 : BitVec 32 := 1#32
  let v31 : BitVec 32 := Scalar.addi v30 c1_i32_80
  let v43 : Index := Scalar.indexCast v31
  let c0_i32_95 : BitVec 32 := 0#32
  let v44 : Index := Scalar.indexCast c0_i32_95
  let c0_i32_94 : BitVec 32 := 0#32
  let c0_i32_83 : BitVec 32 := 0#32
  let c1_i32_85 : BitVec 32 := 1#32
  let arg15 : BitVec 32 := Scf.iv c0_i32_83 c1_i32_85 k0_t6
  let c1_i32_93 : BitVec 32 := 1#32
  let v38 : BitVec 32 := Scalar.muli arg15 c1_i32_93
  let v39 : BitVec 32 := Scalar.addi c0_i32_94 v38
  let c3_i32 : BitVec 32 := 3#32
  let v40 : BitVec 32 := Scalar.shrsi v39 c3_i32
  let v45 : Index := Scalar.indexCast v40
  let c7_i32 : BitVec 32 := 7#32
  let v41 : BitVec 32 := Scalar.andi v39 c7_i32
  let c16_i32 : BitVec 32 := 16#32
  let v42 : BitVec 32 := Scalar.muli v41 c16_i32
  let v46 : Index := Scalar.indexCast v42
  ![v43.toNat, 0, v45.toNat, v46.toNat]

def k0_chk7 (v58 : IVec S16 32) : Prop :=
  (∀ a x, ((![v58] : Fin 1 → IVec S16 32) a x).toNat < S48.size a)
theorem k0_idx8_inb : ∀ (v58 : IVec S16 32) (k0_hw7 : k0_chk7 v58), ∀ a x, ((![v58] : Fin 1 → IVec S16 32) a x).toNat < S48.size a := fun v58 k0_hw7 => k0_hw7

def k0_chk8 (v56 : IVec S16 32) : Prop :=
  (∀ a x, ((![v56] : Fin 1 → IVec S16 32) a x).toNat < S48.size a)
theorem k0_idx9_inb : ∀ (v56 : IVec S16 32) (k0_hw8 : k0_chk8 v56), ∀ a x, ((![v56] : Fin 1 → IVec S16 32) a x).toNat < S48.size a := fun v56 k0_hw8 => k0_hw8

def k0_chk9 (v7 : IVec S16 32) (v66 : IVec S16 32) (v69 : IVec S16 32) (v73 : IVec S16 32) : Prop :=
  (∀ a x, ((![v66, v7, v7, v69, v73] : Fin 5 → IVec S16 32) a x).toNat < S33x1x1x8x128.size a)
theorem k0_idx10_inb : ∀ (v7 : IVec S16 32) (v66 : IVec S16 32) (v69 : IVec S16 32) (v73 : IVec S16 32) (k0_hw9 : k0_chk9 v7 v66 v69 v73), ∀ a x, ((![v66, v7, v7, v69, v73] : Fin 5 → IVec S16 32) a x).toNat < S33x1x1x8x128.size a := fun v7 v66 v69 v73 k0_hw9 => k0_hw9
def k0_off8 (k0_t6 : Fin k0_t6_loop.trips) : Fin 1 → Nat :=
  let c0_i32_94 : BitVec 32 := 0#32
  let c0_i32_83 : BitVec 32 := 0#32
  let c1_i32_85 : BitVec 32 := 1#32
  let arg15 : BitVec 32 := Scf.iv c0_i32_83 c1_i32_85 k0_t6
  let c1_i32_93 : BitVec 32 := 1#32
  let v38 : BitVec 32 := Scalar.muli arg15 c1_i32_93
  let v39 : BitVec 32 := Scalar.addi c0_i32_94 v38
  let c16_i32_103 : BitVec 32 := 16#32
  let v74 : BitVec 32 := Scalar.muli v39 c16_i32_103
  let v75 : Index := Scalar.indexCast v74
  ![v75.toNat]
@[reducible] def k0_t7_loop : Scf.Loop 32 :=
  let c0_i32_31 : BitVec 32 := 0#32
  let c64_i32 : BitVec 32 := 64#32
  let v14 : BitVec 32 := Scalar.addi c0_i32_31 c64_i32
  let c1_i32_32 : BitVec 32 := 1#32
  ⟨c0_i32_31, v14, c1_i32_32⟩
def k0_off9 (k0_t7 : Fin k0_t7_loop.trips) : Fin 1 → Nat :=
  let c0_i32_66 : BitVec 32 := 0#32
  let c0_i32_31 : BitVec 32 := 0#32
  let c1_i32_32 : BitVec 32 := 1#32
  let arg14 : BitVec 32 := Scf.iv c0_i32_31 c1_i32_32 k0_t7
  let c1_i32_65 : BitVec 32 := 1#32
  let v22 : BitVec 32 := Scalar.muli arg14 c1_i32_65
  let v23 : BitVec 32 := Scalar.addi c0_i32_66 v22
  let c16_i32_67 : BitVec 32 := 16#32
  let v31 : BitVec 32 := Scalar.muli v23 c16_i32_67
  let v32 : Index := Scalar.indexCast v31
  ![v32.toNat]

def k0_chk10 (v7 : IVec S16 32) (v26 : IVec S16 32) (v30 : IVec S16 32) (v33 : IVec S16 32) : Prop :=
  (∀ a x, ((![v33, v7, v7, v26, v30] : Fin 5 → IVec S16 32) a x).toNat < S33x1x1x8x128.size a)
theorem k0_idx11_inb : ∀ (v7 : IVec S16 32) (v26 : IVec S16 32) (v30 : IVec S16 32) (v33 : IVec S16 32) (k0_hw10 : k0_chk10 v7 v26 v30 v33), ∀ a x, ((![v33, v7, v7, v26, v30] : Fin 5 → IVec S16 32) a x).toNat < S33x1x1x8x128.size a := fun v7 v26 v30 v33 k0_hw10 => k0_hw10
@[reducible] def k0_t8_loop : Scf.Loop 32 :=
  let c0_i32_34 : BitVec 32 := 0#32
  let c64_i32_35 : BitVec 32 := 64#32
  let v15 : BitVec 32 := Scalar.addi c0_i32_34 c64_i32_35
  let c1_i32_36 : BitVec 32 := 1#32
  ⟨c0_i32_34, v15, c1_i32_36⟩
def k0_off10 (k0_t8 : Fin k0_t8_loop.trips) : Fin 4 → Nat :=
  let c24_i32_67 : BitVec 32 := 24#32
  let v27 : Index := Scalar.indexCast c24_i32_67
  let c0_i32_68 : BitVec 32 := 0#32
  let v28 : Index := Scalar.indexCast c0_i32_68
  let c0_i32_66 : BitVec 32 := 0#32
  let c0_i32_34 : BitVec 32 := 0#32
  let c1_i32_36 : BitVec 32 := 1#32
  let arg14 : BitVec 32 := Scf.iv c0_i32_34 c1_i32_36 k0_t8
  let c1_i32_65 : BitVec 32 := 1#32
  let v22 : BitVec 32 := Scalar.muli arg14 c1_i32_65
  let v23 : BitVec 32 := Scalar.addi c0_i32_66 v22
  let c3_i32 : BitVec 32 := 3#32
  let v24 : BitVec 32 := Scalar.shrsi v23 c3_i32
  let v29 : Index := Scalar.indexCast v24
  let c7_i32 : BitVec 32 := 7#32
  let v25 : BitVec 32 := Scalar.andi v23 c7_i32
  let c16_i32 : BitVec 32 := 16#32
  let v26 : BitVec 32 := Scalar.muli v25 c16_i32
  let v30 : Index := Scalar.indexCast v26
  ![24, 0, v29.toNat, v30.toNat]

def k0_chk11 (v42 : IVec S16 32) : Prop :=
  (∀ a x, ((![v42] : Fin 1 → IVec S16 32) a x).toNat < S48.size a)
theorem k0_idx12_inb : ∀ (v42 : IVec S16 32) (k0_hw11 : k0_chk11 v42), ∀ a x, ((![v42] : Fin 1 → IVec S16 32) a x).toNat < S48.size a := fun v42 k0_hw11 => k0_hw11

def k0_chk12 (v40 : IVec S16 32) : Prop :=
  (∀ a x, ((![v40] : Fin 1 → IVec S16 32) a x).toNat < S48.size a)
theorem k0_idx13_inb : ∀ (v40 : IVec S16 32) (k0_hw12 : k0_chk12 v40), ∀ a x, ((![v40] : Fin 1 → IVec S16 32) a x).toNat < S48.size a := fun v40 k0_hw12 => k0_hw12

def k0_chk13 (v7 : IVec S16 32) (v50 : IVec S16 32) (v53 : IVec S16 32) (v57 : IVec S16 32) : Prop :=
  (∀ a x, ((![v50, v7, v7, v53, v57] : Fin 5 → IVec S16 32) a x).toNat < S33x1x1x8x128.size a)
theorem k0_idx14_inb : ∀ (v7 : IVec S16 32) (v50 : IVec S16 32) (v53 : IVec S16 32) (v57 : IVec S16 32) (k0_hw13 : k0_chk13 v7 v50 v53 v57), ∀ a x, ((![v50, v7, v7, v53, v57] : Fin 5 → IVec S16 32) a x).toNat < S33x1x1x8x128.size a := fun v7 v50 v53 v57 k0_hw13 => k0_hw13
def k0_off11 (k0_t8 : Fin k0_t8_loop.trips) : Fin 1 → Nat :=
  let c0_i32_66 : BitVec 32 := 0#32
  let c0_i32_34 : BitVec 32 := 0#32
  let c1_i32_36 : BitVec 32 := 1#32
  let arg14 : BitVec 32 := Scf.iv c0_i32_34 c1_i32_36 k0_t8
  let c1_i32_65 : BitVec 32 := 1#32
  let v22 : BitVec 32 := Scalar.muli arg14 c1_i32_65
  let v23 : BitVec 32 := Scalar.addi c0_i32_66 v22
  let c16_i32_76 : BitVec 32 := 16#32
  let v58 : BitVec 32 := Scalar.muli v23 c16_i32_76
  let v59 : Index := Scalar.indexCast v58
  ![v59.toNat]
def k0_off12 (i : grid0.Coords) : Fin 5 → Nat :=
  let c0_i32_38 : BitVec 32 := 0#32
  let c24_i32 : BitVec 32 := 24#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_39 : BitVec 32 := 0#32
  let c0_i32_40 : BitVec 32 := 0#32
  ![0, 24, v1.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x200 : Shape := ⟨2, ![4096, 200]⟩
abbrev S34 : Shape := ⟨1, ![34]⟩
abbrev S4096x200x1 : Shape := ⟨3, ![4096, 200, 1]⟩
abbrev S33 : Shape := ⟨1, ![33]⟩
abbrev S1x1x33 : Shape := ⟨3, ![1, 1, 33]⟩
abbrev S4096x200x33 : Shape := ⟨3, ![4096, 200, 33]⟩

abbrev nBuf : Space → Nat
  | .hbm => 15
  | .vmem => 0
  | .smem => 0
  | _ => 0

abbrev bufTy : (tb : Table) → Fin (tcTables nBuf tb) → BufTy
  | .hbm, ⟨0, _⟩ => ⟨S4096x200, .f32⟩
  | .hbm, ⟨1, _⟩ => ⟨S34, .f32⟩
  | .hbm, ⟨2, _⟩ => ⟨S4096x200x1, .f32⟩
  | .hbm, ⟨3, _⟩ => ⟨S33, .f32⟩
  | .hbm, ⟨4, _⟩ => ⟨S1x1x33, .f32⟩
  | .hbm, ⟨5, _⟩ => ⟨S4096x200x33, .f32⟩
  | .hbm, ⟨6, _⟩ => ⟨S4096x200x33, .f32⟩
  | .hbm, ⟨7, _⟩ => ⟨S4096x200x33, .i1⟩
  | .hbm, ⟨8, _⟩ => ⟨S33, .f32⟩
  | .hbm, ⟨9, _⟩ => ⟨S1x1x33, .f32⟩
  | .hbm, ⟨10, _⟩ => ⟨S4096x200x33, .f32⟩
  | .hbm, ⟨11, _⟩ => ⟨S4096x200x33, .f32⟩
  | .hbm, ⟨12, _⟩ => ⟨S4096x200x33, .i1⟩
  | .hbm, ⟨13, _⟩ => ⟨S4096x200x33, .i1⟩
  | .hbm, ⟨14, _⟩ => ⟨S4096x200x33, .f32⟩
  | _, _ => ⟨S4096x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== Proof.Scatter.lean ====
/-
  The indexed store of ONE value: what the kernel's three kinds of scatter (zero a staging tile, clear the ones of the
  tile before, set the ones of this tile) have in common.
-/
module

public import Idealize.ShloMosaic.Lib.SparseCore

@[expose] public section

namespace Cert.Proof.OneHot

open Idealize.ShloMosaic

variable {F : FTy → Type} [FloatOps F] {s : Shape} {e : EltTy}

/-- Writing the same value at the positions of a list of lanes, one after another: an element has that value if some lane
    of the list names it, and otherwise what it had. -/
theorem foldl_scatter {ι : Type} (at_ : ι → s.Idx) (c : Elt F e) (ls : List ι) (f : Vec F s e) (j : s.Idx) :
    ls.foldl (fun g k => fun j' => if (∀ a, (j' a).val = (at_ k a).val) then c else g j') f j
      = if (∃ k ∈ ls, ∀ a, (j a).val = (at_ k a).val) then c else f j := by
  induction ls generalizing f with
  | nil => simp
  | cons k ks ih =>
    rw [List.foldl_cons, ih]
    by_cases h1 : ∃ k' ∈ ks, ∀ a, (j a).val = (at_ k' a).val
    · rw [if_pos h1, if_pos]
      obtain ⟨k', hk, h⟩ := h1
      exact ⟨k', List.mem_cons_of_mem _ hk, h⟩
    · rw [if_neg h1]
      by_cases h2 : ∀ a, (j a).val = (at_ k a).val
      · rw [if_pos h2, if_pos ⟨k, List.mem_cons_self, h2⟩]
      · rw [if_neg h2, if_neg]
        rintro ⟨k', hk, h⟩
        rcases List.mem_cons.mp hk with rfl | hk
        · exact h2 h
        · exact h1 ⟨k', hk, h⟩

/-- An unmasked indexed store of one value `c` in every lane: element `j` holds `c` if some lane's indices are `j` — told
    as any `p` that says so —, and otherwise what it held. -/
theorem storeIdx_const {d : Fin 1 → Nat} (f : Vec F s e) (idxs : Fin s.rank → IVec ⟨1, d⟩ 32) (c : Elt F e)
    (h : ∀ a x, (idxs a x).toNat < s.size a) (j : s.Idx) {p : Prop} [Decidable p]
    (hp : (∃ k : Fin (d 0), ∀ a, (j a).val = (idxs a (Shape.ofLane k)).toNat) ↔ p) :
    storeIdx f idxs (fun _ => c) (fun _ => 1#1) false h j = if p then c else f j := by
  have e := foldl_scatter (F := F) (fun k : Fin (d 0) => idxAt idxs h (Shape.ofLane k)) c (List.finRange (d 0)) f j
  simp only [List.mem_finRange, true_and] at e
  exact e.trans (if_congr hp rfl rfl)

end Cert.Proof.OneHot
-- ==== Proof.Lanes.lean ====
/-
  What the kernel's index vectors are, lane by lane, and the bin a value is put in.

  The kernel walks a tile of 1024 values (8 rows of 128) sixteen at a time: trip `t` of a 64-trip walk takes the values
  at flat places `16 t … 16 t + 15`, which lie in row `t / 8` at columns `16 (t % 8) …`. The walk that zeroes the staging
  buffers is over all 33 · 1024 elements, in 2112 trips.
-/
module

public import proofs.«01_k».proof.Proof.Scatter
public import proofs.«01_k».proof.Proof.Gen.KernelIdeal.Skeleton

@[expose] public section

noncomputable section

namespace Cert.Proof.OneHot

open Cert.KernelIdeal Cert.KernelIdeal.Gen
open Idealize.ShloMosaic

variable {F : FTy → Type} [FloatOps F]

/-! ## The bin of a value -/

/-- Entry `n` of the padded table of breaks. -/
def entry (n : ℕ) : S48.Idx := fun a => ⟨n % S48.size a, Nat.mod_lt _ (by revert a; decide)⟩

/-- The kernel's first guess at the bin of `x`: `trunc (31 x) + 1`, clipped to `0 … 32`. -/
def guess (x : F .f32) : BitVec 32 :=
  IntOp.minsi 32#32 (IntOp.maxsi 0#32 (IntOp.addi (FloatOps.fptosi 32 (FloatOps.mulf x (Scalar.ofBits .f32 0x41F80000#32))) 1#32))

/-- The guess corrected by the table: one up if the break after it is not above `x`, one down if its own break is. -/
def bin (b : S48.Idx → F .f32) (x : F .f32) : BitVec 32 :=
  IntOp.subi (IntOp.addi (guess x) ((FloatOps.cmpf .ole (b (entry ((guess x).toNat + 1))) x).setWidth 32))
    ((FloatOps.cmpf .ogt (b (entry (guess x).toNat)) x).setWidth 32)

theorem clip_le (w : BitVec 32) : (IntOp.minsi 32#32 (IntOp.maxsi 0#32 w)).toNat ≤ 32 := by
  have hw := w.isLt
  have key : ∀ v : BitVec 32, 0 ≤ v.toInt → (IntOp.minsi 32#32 v).toNat ≤ 32 := by
    intro v hv
    unfold IntOp.minsi
    split <;> rename_i h
    · decide
    · rw [BitVec.slt_eq_decide, decide_eq_true_eq] at h
      have e : (32#32).toInt = 32 := by decide
      have c := BitVec.toInt_eq_toNat_cond v
      have := v.isLt
      split at c <;> omega
  apply key
  unfold IntOp.maxsi
  split <;> rename_i h
  · decide
  · rw [BitVec.slt_eq_decide, decide_eq_true_eq] at h
    have e : (0#32).toInt = 0 := by decide
    omega

theorem guess_le (x : F .f32) : (guess x).toNat ≤ 32 := clip_le _

/-- `x` lies between the table's first and last breaks: no break 0 above it, and break 33 not at or below it. -/
def Inside (b : S48.Idx → F .f32) (x : F .f32) : Prop :=
  FloatOps.cmpf .ole (b (entry 33)) x ≠ 1#1 ∧ FloatOps.cmpf .ogt (b (entry 0)) x ≠ 1#1

theorem bit_cases (v : BitVec 1) : v = 0#1 ∨ v = 1#1 := by
  revert v; decide

/-- A bin corrected by two bits stays a bin, unless the first bit is set at bin 32 or the second at bin 0. -/
theorem correct_lt (g : BitVec 32) (u v : BitVec 1) (hg : g.toNat ≤ 32) (hu : g.toNat = 32 → u ≠ 1#1) (hv : g.toNat = 0 → v ≠ 1#1) :
    (IntOp.subi (IntOp.addi g (u.setWidth 32)) (v.setWidth 32)).toNat = g.toNat + u.toNat - v.toNat
      ∧ g.toNat + u.toNat - v.toNat < 33 := by
  have hu' : u.toNat ≤ 1 := by have := u.isLt; omega
  have hv' : v.toNat ≤ 1 := by have := v.isLt; omega
  have hu2 : g.toNat = 32 → u.toNat = 0 := fun e => by
    rcases bit_cases u with rfl | rfl
    · rfl
    · exact absurd rfl (hu e)
  have hv2 : g.toNat = 0 → v.toNat = 0 := fun e => by
    rcases bit_cases v with rfl | rfl
    · rfl
    · exact absurd rfl (hv e)
  unfold IntOp.subi IntOp.addi
  rw [BitVec.toNat_sub, BitVec.toNat_add, BitVec.toNat_setWidth, BitVec.toNat_setWidth]
  omega

theorem bin_lt {b : S48.Idx → F .f32} {x : F .f32} (h : Inside b x) : (bin b x).toNat < 33 := by
  obtain ⟨h1, h2⟩ := correct_lt (guess x) (FloatOps.cmpf .ole (b (entry ((guess x).toNat + 1))) x) (FloatOps.cmpf .ogt (b (entry (guess x).toNat)) x)
    (guess_le x) (fun e => by rw [e]; exact h.1) (fun e => by rw [e]; exact h.2)
  unfold bin
  omega

/-! ## The lanes -/

/-- The lane numbers, and the zero vector, as the kernel makes them. -/
def lanes : IVec S16 32 := iota .scVector S16 32 [0] iota_S16_d0_w32_scVector
def zeros : IVec S16 32 := broadcast S16 0#32

theorem lanes_ofLane (k : Fin 16) : lanes (Shape.ofLane (d := ![16]) k) = BitVec.ofNat 32 k.val := by
  unfold lanes iota
  simp [Shape.ofLane]

theorem row_word : ∀ t : Fin 64, (IntOp.addi (Scalar.shrsi (Scalar.addi 0#32 (Scalar.muli (Scf.iv 0#32 1#32 t.val) 1#32)) 3#32) 0#32).toNat = t.val / 8 := by
  decide +kernel

theorem col_word : ∀ (t : Fin 64) (k : Fin 16),
    (IntOp.addi (Scalar.muli (Scalar.andi (Scalar.addi 0#32 (Scalar.muli (Scf.iv 0#32 1#32 t.val) 1#32)) 7#32) 16#32) (BitVec.ofNat 32 k.val)).toNat
      = t.val % 8 * 16 + k.val := by
  decide +kernel

/-- The row of trip `t`, in every lane. -/
theorem pay1_toNat (t : Fin k0_t7_loop.trips) (l : S16.Idx) : (k0_pay1 zeros t l).toNat = t.val / 8 := row_word t

/-- The column of trip `t`, lane by lane. -/
theorem pay2_toNat (t : Fin k0_t7_loop.trips) (k : Fin 16) : (k0_pay2 lanes t (Shape.ofLane (d := ![16]) k)).toNat = t.val % 8 * 16 + k.val := by
  have := col_word t k
  rw [← lanes_ofLane] at this
  exact this

/-- The flat element of trip `t` of the zeroing walk, lane by lane. -/
theorem pay23_toNat (t : Fin k0_t1_loop.trips) (k : Fin 16) : (k0_pay23 t (Shape.ofLane (d := ![16]) k)).toNat = 16 * t.val + k.val := by
  have ht : t.val < 2112 := t.isLt
  have hk := k.isLt
  have e : k0_pay23 t (Shape.ofLane (d := ![16]) k)
      = (0#32 + (0#32 + BitVec.ofNat 32 t.val * 1#32) * 1#32) * 16#32 + lanes (Shape.ofLane (d := ![16]) k) := rfl
  rw [e, lanes_ofLane]
  simp only [BitVec.toNat_add, BitVec.toNat_mul, BitVec.toNat_ofNat]
  omega

end Cert.Proof.OneHot
-- ==== Proof.Steps.lean ====
/-
  What each trip of the kernel's walks does to the buffers, as functions: the staging tile while it is being zeroed,
  cleared and set, the places kept for the next clearing, and the bins a trip computes.
-/
module

public import proofs.«01_k».proof.Proof.Lanes

@[expose] public section

noncomputable section

namespace Cert.Proof.OneHot

open Cert.KernelIdeal Cert.KernelIdeal.Gen
open Idealize.ShloMosaic

variable {F : FTy → Type} [FloatOps F]

/-! ## The staging tile -/

/-- The two values a staging tile holds. -/
def zero : F .f32 := Scalar.ofBits .f32 0x00000000#32
def one : F .f32 := Scalar.ofBits .f32 0x3F800000#32

/-- The flat place, within its row-of-bins, of an element of the staging tile. -/
def place (j : S33x1x1x8x128.Idx) : ℕ := (j 3).val * 128 + (j 4).val

theorem place_lt (j : S33x1x1x8x128.Idx) : place j < 1024 := by
  have h3 : (j 3).val < 8 := (j 3).isLt
  have h4 : (j 4).val < 128 := (j 4).isLt
  unfold place; omega

/-- The staging tile `f` after `n` trips of the zeroing walk. -/
def zeroed (n : ℕ) (f : S33x1x1x8x128.Idx → F .f32) : S33x1x1x8x128.Idx → F .f32 :=
  fun j => if (j 0).val * 1024 + place j < 16 * n then zero else f j

/-- The staging tile that has a one, at each place from `lo` up to `hi`, in the row of that place's bin, and zeros
    elsewhere. -/
def hot (P : ℕ → BitVec 32) (lo hi : ℕ) : S33x1x1x8x128.Idx → F .f32 :=
  fun j => if lo ≤ place j ∧ place j < hi ∧ (P (place j)).toNat = (j 0).val then one else zero

/-- The places' buffer `f` after `n` trips that keep the bins `P`. -/
def kept (P : ℕ → BitVec 32) (n : ℕ) (f : S1024.Idx → BitVec 32) : S1024.Idx → BitVec 32 :=
  fun q => if (q 0).val < 16 * n then P (q 0).val else f q

theorem zeroed_all (f : S33x1x1x8x128.Idx → F .f32) : zeroed 2112 f = fun _ => zero := by
  funext j
  have h0 : (j 0).val < 33 := (j 0).isLt
  have := place_lt j
  exact if_pos (by omega)

theorem hot_none (P : ℕ → BitVec 32) (lo hi : ℕ) (h : hi ≤ lo ∨ 1024 ≤ lo) : hot (F := F) P lo hi = fun _ => zero := by
  funext j
  have := place_lt j
  exact if_neg (by omega)

theorem kept_all (P : ℕ → BitVec 32) (f : S1024.Idx → BitVec 32) : kept P 64 f = fun q => P (q 0).val := by
  funext q
  have : (q 0).val < 1024 := (q 0).isLt
  exact if_pos (by omega)

theorem zeroed_zero (f : S33x1x1x8x128.Idx → F .f32) : zeroed 0 f = f := by
  funext j
  exact if_neg (by omega)

theorem kept_zero (P : ℕ → BitVec 32) (f : S1024.Idx → BitVec 32) : kept P 0 f = f := by
  funext q
  exact if_neg (by omega)

/-! ## The index vectors of a store into the staging tile -/

/-- The five index vectors of an indexed store into the staging tile: bins, rows, columns. -/
abbrev idx5 (g r c : IVec S16 32) : Fin 5 → IVec S16 32 := ![g, zeros, zeros, r, c]

theorem idx5_inb {g r c : IVec S16 32} (hg : ∀ l, (g l).toNat < 33) (hr : ∀ l, (r l).toNat < 8) (hc : ∀ l, (c l).toNat < 128) :
    ∀ a x, (idx5 g r c a x).toNat < S33x1x1x8x128.size a := by
  intro a x
  match a with
  | ⟨0, _⟩ => exact hg x
  | ⟨1, _⟩ => exact Nat.one_pos
  | ⟨2, _⟩ => exact Nat.one_pos
  | ⟨3, _⟩ => exact hr x
  | ⟨4, _⟩ => exact hc x

/-- A lane names an element exactly if its three indices do. -/
theorem idx5_eq {g r c : IVec S16 32} (j : S33x1x1x8x128.Idx) (l : S16.Idx) :
    (∀ a, (j a).val = (idx5 g r c a l).toNat) ↔ (j 0).val = (g l).toNat ∧ (j 3).val = (r l).toNat ∧ (j 4).val = (c l).toNat := by
  constructor
  · intro h
    exact ⟨h 0, h 3, h 4⟩
  · rintro ⟨h0, h3, h4⟩ a
    have h1 : (j 1).val < 1 := (j 1).isLt
    have h2 : (j 2).val < 1 := (j 2).isLt
    match a with
    | ⟨0, _⟩ => exact h0
    | ⟨1, _⟩ => exact (show (j 1).val = 0 by omega)
    | ⟨2, _⟩ => exact (show (j 2).val = 0 by omega)
    | ⟨3, _⟩ => exact h3
    | ⟨4, _⟩ => exact h4

theorem lane_eq (l : S16.Idx) : ∃ k : Fin 16, l = Shape.ofLane (d := ![16]) k :=
  ⟨l 0, funext fun a => by rw [Fin.eq_zero a]; rfl⟩

theorem pay1_lt (t : Fin k0_t7_loop.trips) (l : S16.Idx) : (k0_pay1 zeros t l).toNat < 8 := by
  rw [pay1_toNat]
  have : t.val < 64 := t.isLt
  omega

theorem pay2_lt (t : Fin k0_t7_loop.trips) (l : S16.Idx) : (k0_pay2 lanes t l).toNat < 128 := by
  obtain ⟨k, rfl⟩ := lane_eq l
  rw [pay2_toNat]
  omega

/-- The sixteen lanes of trip `t` name the elements at places `16 t … 16 t + 15` whose row is the place's bin. -/
theorem trip_names (P : ℕ → BitVec 32) (t : Fin k0_t7_loop.trips) {g : IVec S16 32}
    (hg : ∀ k : Fin 16, g (Shape.ofLane (d := ![16]) k) = P (16 * t.val + k.val)) (j : S33x1x1x8x128.Idx) :
    (∃ k : Fin 16, ∀ a, (j a).val = (idx5 g (k0_pay1 zeros t) (k0_pay2 lanes t) a (Shape.ofLane (d := ![16]) k)).toNat)
      ↔ 16 * t.val ≤ place j ∧ place j < 16 * (t.val + 1) ∧ (P (place j)).toNat = (j 0).val := by
  have h4 : (j 4).val < 128 := (j 4).isLt
  refine (exists_congr fun k => (idx5_eq j _).trans (by rw [hg k, pay1_toNat, pay2_toNat t k])).trans ?_
  constructor
  · rintro ⟨k, h0, h3, h4'⟩
    have e : place j = 16 * t.val + k.val := by unfold place; omega
    rw [e]
    exact ⟨by omega, by omega, h0.symm⟩
  · rintro ⟨hl, hu, hP⟩
    have e : place j = 16 * t.val + (place j - 16 * t.val) := by omega
    refine ⟨⟨place j - 16 * t.val, by omega⟩, ?_, ?_, ?_⟩
    · rw [← e]; exact hP.symm
    · unfold place at *; omega
    · simp only []
      unfold place at *; omega

/-- Trip `t` of the setting walk. -/
theorem set_step (P : ℕ → BitVec 32) (t : Fin k0_t7_loop.trips) {g : IVec S16 32}
    (hg : ∀ k : Fin 16, g (Shape.ofLane (d := ![16]) k) = P (16 * t.val + k.val)) (v : Vec F S16 .f32) (hv : v = fun _ => one) (h) :
    storeIdx (F := F) (e := .f32) (hot P 0 (16 * t.val)) (idx5 g (k0_pay1 zeros t) (k0_pay2 lanes t)) v (fun _ => 1#1) false h
      = hot P 0 (16 * (t.val + 1)) := by
  subst hv
  funext j
  refine (storeIdx_const (F := F) (e := .f32) _ _ one h j (trip_names P t hg j)).trans ?_
  unfold hot
  by_cases hP : (P (place j)).toNat = (j 0).val
  · simp only [hP, and_true, Nat.zero_le, true_and]
    split
    · rw [if_pos (by omega)]
    · by_cases h' : place j < 16 * t.val
      · rw [if_pos h', if_pos (by omega)]
      · rw [if_neg h', if_neg (by omega)]
  · simp only [hP, and_false, if_false]

/-- Trip `t` of the clearing walk. -/
theorem clear_step (P : ℕ → BitVec 32) (t : Fin k0_t7_loop.trips) {g : IVec S16 32}
    (hg : ∀ k : Fin 16, g (Shape.ofLane (d := ![16]) k) = P (16 * t.val + k.val)) (v : Vec F S16 .f32) (hv : v = fun _ => zero) (h) :
    storeIdx (F := F) (e := .f32) (hot P (16 * t.val) 1024) (idx5 g (k0_pay1 zeros t) (k0_pay2 lanes t)) v (fun _ => 1#1) false h
      = hot P (16 * (t.val + 1)) 1024 := by
  subst hv
  funext j
  refine (storeIdx_const (F := F) (e := .f32) _ _ zero h j (trip_names P t hg j)).trans ?_
  unfold hot
  by_cases hP : (P (place j)).toNat = (j 0).val
  · simp only [hP, and_true, Nat.zero_le, true_and]
    have := place_lt j
    split
    · rw [if_neg (by omega)]
    · by_cases h' : 16 * (t.val + 1) ≤ place j
      · rw [if_pos (by omega), if_pos (by omega)]
      · rw [if_neg (by omega), if_neg (by omega)]
  · simp only [hP, and_false, if_false]

/-! ## The zeroing walk -/

theorem shr_toNat (v : BitVec 32) (s : ℕ) (hv : v.toNat < 2 ^ 31) : (v.sshiftRight s).toNat = v.toNat / 2 ^ s := by
  rw [BitVec.sshiftRight_eq_of_msb_false, BitVec.toNat_ushiftRight, Nat.shiftRight_eq_div_pow]
  rw [BitVec.msb_eq_false_iff_two_mul_lt]
  omega

theorem pay24_toNat (t : Fin k0_t1_loop.trips) (k : Fin 16) :
    (k0_pay24 t (Shape.ofLane (d := ![16]) k)).toNat = (16 * t.val + k.val) / 1024 := by
  have ht : t.val < 2112 := t.isLt
  rw [← pay23_toNat t k]
  exact shr_toNat _ 10 (by rw [pay23_toNat]; omega)

theorem pay25_toNat (t : Fin k0_t1_loop.trips) (k : Fin 16) :
    (k0_pay25 t (Shape.ofLane (d := ![16]) k)).toNat = (16 * t.val + k.val) % 1024 := by
  rw [← pay23_toNat t k]
  exact (BitVec.toNat_and _ _).trans (Nat.and_two_pow_sub_one_eq_mod _ 10)

theorem pay26_toNat (t : Fin k0_t1_loop.trips) (k : Fin 16) :
    (k0_pay26 t (Shape.ofLane (d := ![16]) k)).toNat = (16 * t.val + k.val) % 1024 / 128 := by
  rw [← pay25_toNat t k]
  exact shr_toNat _ 7 (by rw [pay25_toNat]; omega)

theorem pay27_toNat (t : Fin k0_t1_loop.trips) (k : Fin 16) :
    (k0_pay27 t (Shape.ofLane (d := ![16]) k)).toNat = (16 * t.val + k.val) % 1024 % 128 := by
  rw [← pay25_toNat t k]
  exact (BitVec.toNat_and _ _).trans (Nat.and_two_pow_sub_one_eq_mod _ 7)

theorem zero_inb (t : Fin k0_t1_loop.trips) : ∀ a x, (idx5 (k0_pay24 t) (k0_pay26 t) (k0_pay27 t) a x).toNat < S33x1x1x8x128.size a := by
  have ht : t.val < 2112 := t.isLt
  apply idx5_inb <;> intro l <;> obtain ⟨k, rfl⟩ := lane_eq l
  · rw [pay24_toNat]; omega
  · rw [pay26_toNat]; omega
  · rw [pay27_toNat]; omega

/-- Trip `t` of the zeroing walk. -/
theorem zero_step (t : Fin k0_t1_loop.trips) (f : S33x1x1x8x128.Idx → F .f32) (v : Vec F S16 .f32) (hv : v = fun _ => zero) (h) :
    storeIdx (F := F) (e := .f32) (zeroed t.val f) (idx5 (k0_pay24 t) (k0_pay26 t) (k0_pay27 t)) v (fun _ => 1#1) false h
      = zeroed (t.val + 1) f := by
  subst hv
  funext j
  have hp := place_lt j
  have h4 : (j 4).val < 128 := (j 4).isLt
  have e : (∃ k : Fin ((![16] : Fin 1 → ℕ) 0), ∀ a, (j a).val = (idx5 (k0_pay24 t) (k0_pay26 t) (k0_pay27 t) a (Shape.ofLane k)).toNat)
      ↔ 16 * t.val ≤ (j 0).val * 1024 + place j ∧ (j 0).val * 1024 + place j < 16 * (t.val + 1) := by
    refine (exists_congr fun k => (idx5_eq j _).trans (by rw [pay24_toNat t k, pay26_toNat t k, pay27_toNat t k])).trans ?_
    constructor
    · rintro ⟨k, h0, h3, h4'⟩
      have : k.val < 16 := k.isLt
      unfold place
      omega
    · rintro ⟨hl, hu⟩
      refine ⟨⟨(j 0).val * 1024 + place j - 16 * t.val, ?_⟩, ?_⟩
      · show _ < 16
        omega
      · unfold place at *
        simp only []
        omega
  refine (storeIdx_const (F := F) (e := .f32) _ _ zero h j e).trans ?_
  unfold zeroed
  split
  · rw [if_pos (by omega)]
  · by_cases h' : (j 0).val * 1024 + place j < 16 * t.val
    · rw [if_pos h', if_pos (by omega)]
    · rw [if_neg h', if_neg (by omega)]

end Cert.Proof.OneHot
-- ==== Proof.Windows.lean ====
/-
  The sixteen-value windows a trip loads and stores, and the bins it computes from them.
-/
module

public import proofs.«01_k».proof.Proof.Steps

@[expose] public section

noncomputable section

namespace Cert.Proof.OneHot

open Cert.KernelIdeal Cert.KernelIdeal.Gen
open Idealize.ShloMosaic

variable {F : FTy → Type} [FloatOps F]

/-! ## The bins of sixteen values -/

theorem loadIdx_entry (b : S48.Idx → F .f32) (v : IVec S16 32) (h : ∀ a x, ((![v] : Fin 1 → IVec S16 32) a x).toNat < S48.size a) (l : S16.Idx) :
    loadIdx (F := F) (e := .f32) b ![v] h l = b (entry (v l).toNat) := by
  refine congrArg b (funext fun a => Fin.ext ?_)
  have := h a l
  rw [Fin.eq_zero a] at this ⊢
  exact (Nat.mod_eq_of_lt this).symm

/-- The first guesses at the bins of the values loaded. -/
theorem pay16_apply (ld : Vec F S1x1x1x16 .f32) (l : S16.Idx) : k0_pay16 ld l = guess (k0_pay15 ld l) := rfl

theorem guess_succ (x : F .f32) : (IntOp.addi (guess x) 1#32).toNat = (guess x).toNat + 1 := by
  have := guess_le x
  unfold IntOp.addi
  rw [BitVec.toNat_add]
  have e : (1#32).toNat = 1 := rfl
  omega

theorem chk12_guess (ld : Vec F S1x1x1x16 .f32) : k0_chk12 (k0_pay16 ld) := by
  intro a x
  rw [Fin.eq_zero a]
  have := guess_le (k0_pay15 ld x)
  show (guess (k0_pay15 ld x)).toNat < 48
  omega

theorem chk11_guess (ld : Vec F S1x1x1x16 .f32) : k0_chk11 (k0_pay17 (k0_pay16 ld)) := by
  intro a x
  rw [Fin.eq_zero a]
  have := guess_le (k0_pay15 ld x)
  show (IntOp.addi (guess (k0_pay15 ld x)) 1#32).toNat < 48
  rw [guess_succ]
  omega

/-- The bins a trip computes are the bins of the values it loaded. -/
theorem pay18_bin (b : S48.Idx → F .f32) (ld : Vec F S1x1x1x16 .f32) (h1) (h2) (l : S16.Idx) :
    k0_pay18 ld (k0_pay16 ld) (loadIdx (F := F) (e := .f32) b ![k0_pay17 (k0_pay16 ld)] h1) (loadIdx (F := F) (e := .f32) b ![k0_pay16 ld] h2) l
      = bin b (k0_pay15 ld l) := by
  have e : ∀ u v : Vec F S16 .f32, k0_pay18 ld (k0_pay16 ld) u v l
      = IntOp.subi (IntOp.addi (guess (k0_pay15 ld l)) ((FloatOps.cmpf .ole (u l) (k0_pay15 ld l)).setWidth 32))
          ((FloatOps.cmpf .ogt (v l) (k0_pay15 ld l)).setWidth 32) := fun _ _ => rfl
  rw [e, loadIdx_entry, loadIdx_entry, pay16_apply]
  show IntOp.subi (IntOp.addi _ ((FloatOps.cmpf .ole (b (entry (IntOp.addi (guess (k0_pay15 ld l)) 1#32).toNat)) _).setWidth 32)) _ = _
  rw [guess_succ]
  rfl

/-! ## The windows -/

/-- The value at flat place `p` of slab `n` of the input's column-block. -/
def cell (n p : ℕ) : S25x1x8x128.Idx :=
  fun a => ⟨(![n, 0, p / 128, p % 128] : Fin 4 → ℕ) a % S25x1x8x128.size a, Nat.mod_lt _ (by revert a; decide)⟩

/-- The bin of each flat place of slab `n`. -/
def bins (b : S48.Idx → F .f32) (x : S25x1x8x128.Idx → F .f32) (n p : ℕ) : BitVec 32 := bin b (x (cell n p))

/-- The sixteen values loaded at trip `t` of a walk over slab `n`. -/
theorem row_load (x : S25x1x8x128.Idx → F .f32) (n : ℕ) (hn : n < 25) (t : Fin k0_t7_loop.trips) (off : Fin 4 → ℕ)
    (ho : off = ![n, 0, t.val / 8, t.val % 8 * 16]) (h) (k : Fin 16) :
    k0_pay15 (F := F) (fun y => x ((Rect.unit (s := S25x1x8x128) off S1x1x1x16.size h).toLoadRect.idx y)) (Shape.ofLane (d := ![16]) k)
      = x (cell n (16 * t.val + k.val)) := by
  subst ho
  have ht : t.val < 64 := t.isLt
  have hk := k.isLt
  have e : Shape.reshapeEquiv shapeCasts_S1x1x1x16_S16 (Shape.ofLane (d := ![16]) k)
      = (fun a => ⟨(![0, 0, 0, k.val] : Fin 4 → ℕ) a, by revert a; decide +revert⟩ : S1x1x1x16.Idx) := by
    revert k; decide +kernel
  show x ((Rect.unit (s := S25x1x8x128) _ S1x1x1x16.size h).toLoadRect.idx (Shape.reshapeEquiv shapeCasts_S1x1x1x16_S16 (Shape.ofLane (d := ![16]) k))) = _
  rw [e]
  refine congrArg x (funext fun a => Fin.ext ?_)
  rw [LoadRect.idx_apply]
  match a with
  | ⟨0, _⟩ => exact (show n + 1 * 0 = n % 25 by omega)
  | ⟨1, _⟩ => rfl
  | ⟨2, _⟩ => exact (show t.val / 8 + 1 * 0 = (16 * t.val + k.val) / 128 % 8 by omega)
  | ⟨3, _⟩ => exact (show t.val % 8 * 16 + 1 * k.val = (16 * t.val + k.val) % 128 % 128 by omega)

/-- The sixteen bins kept at trip `t`, loaded back. -/
theorem kept_load (P : ℕ → BitVec 32) (t : Fin k0_t7_loop.trips) (off : Fin 1 → ℕ) (ho : off = ![16 * t.val]) (h) (k : Fin 16) :
    P (((Rect.unit (s := S1024) off S16.size h).toLoadRect.idx (Shape.ofLane (d := ![16]) k)) 0).val = P (16 * t.val + k.val) := by
  subst ho
  refine congrArg P ?_
  rw [LoadRect.idx_apply]
  exact (show 16 * t.val + 1 * k.val = _ by omega)

/-- Storing the sixteen bins of trip `t`: on the window, -/
theorem kept_store_in (P : ℕ → BitVec 32) (t : Fin k0_t7_loop.trips) (off : Fin 1 → ℕ) (ho : off = ![16 * t.val]) (h)
    (f : S1024.Idx → BitVec 32) {g : IVec S16 32} (hg : ∀ k : Fin 16, g (Shape.ofLane (d := ![16]) k) = P (16 * t.val + k.val))
    (l : S16.Idx) : kept P (t.val + 1) f ((Rect.unit (s := S1024) off S16.size h).emb l) = g l := by
  subst ho
  obtain ⟨k, rfl⟩ := lane_eq l
  have hk := k.isLt
  have e : ((Rect.unit (s := S1024) ![16 * t.val] S16.size h).emb (Shape.ofLane (d := ![16]) k) 0).val = 16 * t.val + k.val := by
    rw [Rect.emb_apply]
    exact (show 16 * t.val + 1 * k.val = _ by omega)
  unfold kept
  rw [hg, e, if_pos (by omega)]

/-- and off it. -/
theorem kept_store_out (P : ℕ → BitVec 32) (t : Fin k0_t7_loop.trips) (off : Fin 1 → ℕ) (ho : off = ![16 * t.val]) (h)
    (f : S1024.Idx → BitVec 32) (q : S1024.Idx) (hq : ∀ l, (Rect.unit (s := S1024) off S16.size h).emb l ≠ q) :
    kept P (t.val + 1) f q = kept P t.val f q := by
  subst ho
  have hn : ¬ (16 * t.val ≤ (q 0).val ∧ (q 0).val < 16 * (t.val + 1)) := by
    rintro ⟨hl, hu⟩
    refine hq (Shape.ofLane (d := ![16]) ⟨(q 0).val - 16 * t.val, by show _ < 16; omega⟩) (funext fun a => Fin.ext ?_)
    rw [Rect.emb_apply, Fin.eq_zero a]
    exact (show 16 * t.val + 1 * ((q 0).val - 16 * t.val) = _ by omega)
  unfold kept
  by_cases h' : (q 0).val < 16 * t.val
  · rw [if_pos h', if_pos (by omega)]
  · rw [if_neg h', if_neg (by omega)]

/-! ## Where the kernel's windows lie -/

theorem off3_eq : ∀ (t2 : Fin k0_t2_loop.trips) (t : Fin k0_t4_loop.trips), k0_off3 t2 t = ![2 * t2.val, 0, t.val / 8, t.val % 8 * 16] := by
  decide +kernel

theorem off7_eq : ∀ (t2 : Fin k0_t2_loop.trips) (t : Fin k0_t6_loop.trips), k0_off7 t2 t = ![2 * t2.val + 1, 0, t.val / 8, t.val % 8 * 16] := by
  decide +kernel

theorem off10_eq : ∀ t : Fin k0_t8_loop.trips, k0_off10 t = ![24, 0, t.val / 8, t.val % 8 * 16] := by
  decide +kernel

end Cert.Proof.OneHot
-- ==== Proof.Holds.lean ====
/-
  A memref held outright, by what it reads: the form in which the tile's proof carries every buffer, and the rules of the
  kernel's loads, stores, indexed loads and stores and transfers in that form.
-/
module

public import Idealize.ShloMosaic.Lib.SparseCore.Quiescent
public import Idealize.ShloMosaic.Lib.Pipeline.Kit
public import Idealize.ShloMosaic.Lib.Tactic

@[expose] public section

noncomputable section

namespace Cert.Proof.OneHot

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : ℕ} {τ : Topo} {sig : RefSig} {F : FTy → Type}

/-- The user algebra: the handshakes' rounds beside the transfers' counters. -/
abbrev UH (nD : ℕ) (τ : Topo) (sig : RefSig) : Type := URounds (GSem nD τ sig) ℕ
abbrev UU (nD : ℕ) (τ : Topo) (sig : RefSig) : Type := UH nD τ sig × Counters

local notation "𝕄" => MT nD τ sig (HIx 1) (Elt F) ℕ (UU nD τ sig) ℕ

/-- The counters' part of the algebra. -/
abbrev EC : UEmb Counters 𝕄 := countersEmb

section

variable (c : Thread nD τ) {sp sp' : Space} {s s' : Shape} {e : EltTy}

/-- What a thread that owes `O` has, having waited for `W` and transfers of its own. -/
def Owing (O : CellTallies nD τ sig (HIx 1)) (W : Waits sig (HIx 1)) : sProp 𝕄 :=
  iprop(∃ W', ⌜∀ p ∈ W', p ∈ W ∨ p.2 = none⌝ ∗ owes c O W')

/-- The elements under `m` are held outright and read `G`. -/
def Holds (m : Memref sig c.2.kind sp s e) (G : s.Idx → Elt F e) : sProp 𝕄 :=
  iprop(∃ f, ⌜m.view.read (Elt F) f = G⌝ ∗ m.view.loc c ↦[m.view.set]{fullShare} f)

/-- The elements under `m` are held outright, whatever they read. -/
def Owns (m : Memref sig c.2.kind sp s e) : sProp 𝕄 :=
  iprop(∃ f, m.view.loc c ↦[m.view.set]{fullShare} (f : Buf (Elt F) (m.view.loc c)))

theorem holds_owns (m : Memref sig c.2.kind sp s e) (G : s.Idx → Elt F e) : (Holds c m G : sProp 𝕄) ⊢ Owns c m := by
  unfold Holds Owns
  iintro ⟨%f, -, H⟩
  iexists f
  iexact H

theorem owns_holds (m : Memref sig c.2.kind sp s e) : (Owns (F := F) c m : sProp 𝕄) ⊢ iprop(∃ G, Holds c m G) := by
  unfold Holds Owns
  iintro ⟨%f, H⟩
  iexists m.view.read (Elt F) f
  iexists f
  isplit
  · ipureintro; rfl
  · iexact H

end

section

variable [FloatOps F] {Λ : Labels} {defs : Defs nD τ sig (Elt F) Λ} (𝒱 : Variants) (c : Thread nD τ) (bd : Option 𝒱.V)
variable {α : Type} {Q : α → sProp (MT nD τ sig (HIx 1) (Elt F) ℕ (UU nD τ sig) ℕ)} {sp sp' : Space} {s s' t : Shape} {e : EltTy}

/-- A load through a rectangle: the program goes on with what the memref reads there, named `g`. -/
theorem holds_load {cs : CoreSpace} {m : Memref sig c.2.kind cs s e} {r : LoadRect s} {hl : m.view.LoadsAt r}
    {k : (r.shape.Idx → Elt F e) → Prog (TpuEff nD τ sig (Elt F) Λ c.2) α} {G : s.Idx → Elt F e} :
    (Holds c m G : sProp 𝕄)
      ⊢ iprop((∀ g, ⌜g = fun x => G (r.idx x)⌝ -∗ Holds c m G -∗ wp frame (wpE defs 𝒱 c bd) Set.univ (k g) Q)
          -∗ wp frame (wpE defs 𝒱 c bd) Set.univ (.op (.load m r hl) k) Q) := by
  unfold Holds
  iintro ⟨%f, %hf, H⟩ Hk
  subst hf
  iapply (wp_load (defs := defs) 𝒱 c bd Set.univ (Q := Q) (m := m) (r := r) (hl := hl) (k := k) (S := m.view.set)
    (Finset.map_subset_map.mpr (Finset.subset_univ _))) $$ H
  iintro H
  ispecialize Hk $$ %_ %rfl
  iapply Hk
  iexists f
  isplit
  · ipureintro; rfl
  · iexact H

/-- A store through a rectangle: afterwards the memref reads `G'`, if `G'` is the payload on the rectangle and the old
    contents off it. -/
theorem holds_store {cs : CoreSpace} {m : Memref sig c.2.kind cs s e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ c.2) α} {G : s.Idx → Elt F e} (G' : s.Idx → Elt F e)
    (hin : ∀ x, G' (r.emb x) = w x) (hout : ∀ y, (∀ x, r.emb x ≠ y) → G' y = G y) :
    (Holds c m G : sProp 𝕄)
      ⊢ iprop((Holds c m G' -∗ wp frame (wpE defs 𝒱 c bd) Set.univ (k ⟨⟩) Q)
          -∗ wp frame (wpE defs 𝒱 c bd) Set.univ (.op (.store m r w Finset.univ hx hm) k) Q) := by
  unfold Holds
  iintro ⟨%f, %hf, H⟩ Hk
  subst hf
  iapply (wp_store (defs := defs) 𝒱 c bd Set.univ (Q := Q) (m := m) (r := r) (w := w) (Mk := Finset.univ) (hx := hx) (hm := hm) (k := k)
    (S := m.view.set) (m.view.set_slice_subset r)) $$ H
  iintro H
  iapply Hk
  iexists _
  isplit
  rotate_left
  · iexact H
  · ipureintro
    funext y
    by_cases h : ∃ x, r.emb x = y
    · obtain ⟨x, rfl⟩ := h
      rw [hin]
      exact View.read_slice_write_emb r f w (Finset.mem_univ x)
    · have h' : ∀ x, r.emb x ≠ y := fun x hx => h ⟨x, hx⟩
      rw [hout y h']
      exact View.read_slice_write_of_not_mem r f w Finset.univ (fun hm => h (by
        obtain ⟨x, _, hx⟩ := Finset.mem_map.mp hm
        exact ⟨x, hx⟩))

/-- An indexed load, its result named `g`. -/
theorem holds_loadIdx {m : Memref sig c.2.kind .vmem s e} {idxs : Fin s.rank → IVec t 32}
    {h : ∀ a x, (idxs a x).toNat < s.size a} {hl : m.view.Loads} {k : Vec F t e → Prog (TpuEff nD τ sig (Elt F) Λ c.2) α}
    {G : s.Idx → Elt F e} :
    (Holds c m G : sProp 𝕄)
      ⊢ iprop((∀ g, ⌜g = loadIdx G idxs h⌝ -∗ Holds c m G -∗ wp frame (wpE defs 𝒱 c bd) Set.univ (k g) Q)
          -∗ wp frame (wpE defs 𝒱 c bd) Set.univ (SparseCore.vectorLoadIdx m idxs h hl >>= k) Q) := by
  unfold Holds
  iintro ⟨%f, %hf, H⟩ Hk
  subst hf
  iapply (SparseCore.wp_vectorLoadIdx (defs := defs) 𝒱 c bd Set.univ (Q := Q) (base := m) (idxs := idxs) (h := h) (hl := hl) (k := k)
    (S := m.view.set) (m.view.set_slice_subset _)) $$ H
  rw [show (m.access (.whole s)).read (Elt F) f = m.view.read (Elt F) f from
    funext fun x => congrArg (m.view.read (Elt F) f) (Rect.emb_whole_apply s x)]
  iintro H
  ispecialize Hk $$ %_ %rfl
  iapply Hk
  iexists f
  isplit
  · ipureintro; rfl
  · iexact H

/-- An indexed store: afterwards the memref reads `G'`, what the scatter makes of the old contents. -/
theorem holds_storeIdx {d : Fin 1 → Nat} {m : Memref sig c.2.kind .vmem s e} {idxs : Fin s.rank → IVec ⟨1, d⟩ 32} {v : Vec F ⟨1, d⟩ e}
    {mask : IVec ⟨1, d⟩ 1} {add : Bool} {h : ∀ a x, (idxs a x).toNat < s.size a} {hs : (m.access (.whole s)).Stores Finset.univ}
    {k : PUnit → Prog (TpuEff nD τ sig (Elt F) Λ c.2) α} {G : s.Idx → Elt F e} (G' : s.Idx → Elt F e)
    (hG : storeIdx G idxs v mask add h = G') :
    (Holds c m G : sProp 𝕄)
      ⊢ iprop((Holds c m G' -∗ wp frame (wpE defs 𝒱 c bd) Set.univ (k ⟨⟩) Q)
          -∗ wp frame (wpE defs 𝒱 c bd) Set.univ (SparseCore.vectorStoreIdx m idxs v mask add h hs >>= k) Q) := by
  unfold Holds
  iintro ⟨%f, %hf, H⟩ Hk
  subst hf
  have hset : (m.access (.whole s)).set = m.view.set := by
    show (m.view.slice (.whole s)).set = m.view.set
    rw [View.set_slice, Rect.set_whole]; rfl
  have hread : ∀ g : m.view.ty.Contents (Elt F), (m.access (.whole s)).read (Elt F) g = m.view.read (Elt F) g := fun g =>
    funext fun x => congrArg (m.view.read (Elt F) g) (Rect.emb_whole_apply s x)
  ihave H := (Entails.of_eq (show (m.view.loc c ↦[m.view.set]{fullShare} f : sProp 𝕄)
    = ((m.access (.whole s)).loc c ↦[(m.access (.whole s)).set]{fullShare} f) by rw [hset])) $$ H
  iapply (SparseCore.wp_vectorStoreIdx (defs := defs) 𝒱 c bd Set.univ (Q := Q) (base := m) (idxs := idxs) (v := v) (mask := mask) (add := add)
    (h := h) (hs := hs) (k := k)) $$ H
  iintro H
  iapply Hk
  rw [hset, hread]
  iexists _
  isplit
  rotate_left
  · iexact H
  · ipureintro
    rw [← hread, View.read_write_univ]
    exact hG

/-- A transfer out of a memref held outright: in flight are the destination, reading what the source read, and the
    source as it was. -/
theorem holds_send {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig (Elt F) Λ c.2) α} {G : s.Idx → Elt F e}
    (N : ℕ) (hN : dst.view.amount sm = N) (hN0 : 0 < N) :
    iprop(Holds c src G ∗ Owns (F := F) c dst ∗ semVal (c, sm) 0)
      ⊢ iprop((Transfers.Flight EC c sm (none : HIx 1) N iprop(Holds c dst G ∗ Holds c src G)
              -∗ wp frame (wpE defs 𝒱 c bd) Set.univ (k ⟨⟩) Q)
          -∗ wp frame (wpE defs 𝒱 c bd) Set.univ (.op (.enqueueDmaAs src (.here dst) .same sm hsrc hdst hsem) k) Q) := by
  unfold Holds Owns
  iintro ⟨⟨%f, %hf, H⟩, ⟨%g, Hd⟩, Hv⟩ Hk
  subst hf
  iapply (Transfers.wp_dmaLocal (defs := defs) EC 𝒱 c bd (Q := Q) (k := k) (src := src) (dst := dst) (via := .same) (hsrc := hsrc) (hdst := hdst) (hsem := hsem)
    (none : HIx 1) N hN hN0 subset_rfl) $$ [H Hd Hv]
  · isplitl [H]; · iexact H
    isplitl [Hd]; · iexact Hd
    iexact Hv
  iintro Hf
  iapply Hk
  iapply (Transfers.Flight_mono EC c ?_) $$ Hf
  iintro ⟨Hd, H⟩
  isplitl [Hd]
  · iexists _
    isplit
    rotate_left
    · iexact Hd
    · ipureintro
      exact View.read_write_univ _ _
  · iexists f
    isplit
    · ipureintro; rfl
    · iexact H

/-- A transfer out of memory of which a share is held: in flight is the destination, reading what the source reads. -/
theorem holds_fetch {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig (Elt F) Λ c.2) α} {q : PosShare TreeShare} {fs : Buf (Elt F) (src.view.loc c)}
    (N : ℕ) (hN : dst.view.amount sm = N) (hN0 : 0 < N) :
    iprop((src.view.loc c ↦[src.view.set]{q} fs) ∗ Owns (F := F) c dst ∗ semVal (c, sm) 0)
      ⊢ iprop((Transfers.Flight EC c sm (none : HIx 1) N (Holds c dst (src.view.read (Elt F) fs))
              -∗ wp frame (wpE defs 𝒱 c bd) Set.univ (k ⟨⟩) Q)
          -∗ wp frame (wpE defs 𝒱 c bd) Set.univ (.op (.enqueueDmaAs src (.here dst) .same sm hsrc hdst hsem) k) Q) := by
  unfold Holds Owns
  iintro ⟨H, ⟨%g, Hd⟩, Hv⟩ Hk
  iapply (Transfers.wp_dmaLocal (defs := defs) EC 𝒱 c bd (Q := Q) (k := k) (src := src) (dst := dst) (via := .same) (hsrc := hsrc) (hdst := hdst) (hsem := hsem)
    (none : HIx 1) N hN hN0 subset_rfl) $$ [H Hd Hv]
  · isplitl [H]; · iexact H
    isplitl [Hd]; · iexact Hd
    iexact Hv
  iintro Hf
  iapply Hk
  iapply (Transfers.Flight_mono EC c ?_) $$ Hf
  iintro ⟨Hd, -⟩
  iexists _
  isplit
  rotate_left
  · iexact Hd
  · ipureintro
    exact View.read_write_univ _ _

/-- A wait for a transfer in flight: what it carried is there, and its counter is back at zero. -/
theorem flight_wait {sem : DmaSem sig} {srcw : Memref sig c.2.kind sp' s' e} {κ : Kind} {dstw : Memref sig κ sp s e}
    {hsrc : srcw.view.WordExact} {hdst : dstw.view.WordExact} {k : PUnit → Prog (TpuEff nD τ sig (Elt F) Λ c.2) α}
    {N : ℕ} (hN : dstw.view.dmaCredit = N) {R : sProp (MT nD τ sig (HIx 1) (Elt F) ℕ (UU nD τ sig) ℕ)}
    {O : CellTallies nD τ sig (HIx 1)} {W : Waits sig (HIx 1)} :
    iprop(Transfers.MayWaits c (none : HIx 1) O ∗ Transfers.Flight EC c (.dma sem) (none : HIx 1) N R ∗ Owing c O W)
      ⊢ iprop((iprop(R ∗ semVal (c, .dma sem) 0 ∗ Owing c O W) -∗ wp frame (wpE defs 𝒱 c bd) Set.univ (k ⟨⟩) Q)
          -∗ wp frame (wpE defs 𝒱 c bd) Set.univ (.op (.waitDma2 sem srcw dstw hsrc hdst) k) Q) := by
  unfold Owing
  iintro ⟨Hm, Hf, ⟨%W', %hW, HO⟩⟩ Hk
  ihave Hm := (Transfers.MayWaits.elim (.dma sem)) $$ Hm
  iapply (Transfers.wp_waitLocalO (defs := defs) EC 𝒱 c bd (Q := Q) (k := k) (sem := sem) (srcw := srcw) (dstw := dstw) (hsrc := hsrc) (hdst := hdst)
    (none : HIx 1) hN) $$ [Hm Hf HO]
  · isplitl [Hf]; · iexact Hf
    isplitl [HO] <;> iassumption
  iintro ⟨HR, Hv, HO⟩
  iapply Hk
  isplitl [HR]; · iexact HR
  isplitl [Hv]; · iexact Hv
  iexists _
  isplit
  rotate_left
  · iexact HO
  · ipureintro
    intro p hp
    rcases Finset.mem_insert.mp hp with rfl | hp
    · exact .inr rfl
    · exact hW p hp

end

end Cert.Proof.OneHot
-- ==== Proof.Walks.lean ====
/-
  The kernel's walks on one vector subcore: over a staging tile to zero it, over the places of the tile before to clear
  its ones, and over a slab of the input to set this tile's ones. Each is proved once, for any staging tile and places'
  buffer: the kernel runs the last two on both its staging tiles.
-/
module

public import proofs.«01_k».proof.Proof.Windows
public import proofs.«01_k».proof.Proof.Holds

@[expose] public section

noncomputable section

namespace Cert.Proof.OneHot

open Cert.KernelIdeal Cert.KernelIdeal.Gen
open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU nD τ sig) ℕ

/-- The vector subcore that runs the task at coordinates `L` on device `d`. -/
abbrev thr (d : Dev nD) (L : grid0.Coords) : Thread nD τ := V d ((L 0).castLE hcore0) ((L 1).castLE hsub0)

/-- Its programs. -/
abbrev Code (F : FTy → Type) (L : grid0.Coords) (α : Type) : Type 1 :=
  Prog (TpuEff nD τ sig (Elt F) Λ₀ (.scVector ((L 0).castLE hcore0) ((L 1).castLE hsub0))) α

variable (d : Dev nD) (L : grid0.Coords)

/-- What it takes to run one of its programs to `Q`. -/
abbrev run {α : Type} (p : Code F L α) (Q : α → sProp 𝕄) : sProp 𝕄 :=
  wp frame (wpE (defs₀ (F := F)) Variants.none (thr d L) none) Set.univ p Q

variable (st : Memref sig .scVector .vmem S33x1x1x8x128 .f32) (pos : Memref sig .scVector .vmem S1024 .i32)
variable (inp : Memref sig .scVector .vmem S25x1x8x128 .f32) (brk : Memref sig .scVector .vmem S48 .f32)

/-! ## Clearing -/

/-- One trip of the clearing walk: the sixteen bins kept at the window are loaded and zeros stored where they point. The
    check of the indices is `C`, which says they are in bounds. -/
def clearTrip (t : Fin k0_t7_loop.trips) (off : Fin 1 → ℕ) (h : ∀ a, off a + S16.size a ≤ S1024.size a)
    (C : IVec S16 32 → Prop) (dec : ∀ g, Decidable (C g))
    (hin : ∀ g, C g → ∀ a x, (idx5 g (k0_pay1 zeros t) (k0_pay2 lanes t) a x).toNat < S33x1x1x8x128.size a) : Code F L Unit := do
  let g : Vec F S16 .i32 ← Prog.lift (.load pos (Rect.unit (s := S1024) off S16.size h).toLoadRect (View.loadsAt_vmem h_S16))
  let hw := (← Prog.lift (TpuEff.assume (C g) (dec g))).down
  SparseCore.vectorStoreIdx st (idx5 g (k0_pay1 zeros t) (k0_pay2 lanes t)) (k0_pay22 (F := F)) (fun _ => 1#1) false (hin g hw)
    (View.stores_vmem_bits_univ h_S33x1x1x8x128 rfl)
  pure ⟨⟩

theorem clear_trip (P : ℕ → BitVec 32) (hP : ∀ p, (P p).toNat < 33) (t : Fin k0_t7_loop.trips) (off : Fin 1 → ℕ) (ho : off = ![16 * t.val]) (h)
    (C : IVec S16 32 → Prop) (dec : ∀ g, Decidable (C g))
    (hin : ∀ g, C g → ∀ a x, (idx5 g (k0_pay1 zeros t) (k0_pay2 lanes t) a x).toNat < S33x1x1x8x128.size a)
    (hC : ∀ g, (∀ a x, (idx5 g (k0_pay1 zeros t) (k0_pay2 lanes t) a x).toNat < S33x1x1x8x128.size a) → C g) :
    iprop(Holds (F := F) (thr d L) st (hot P (16 * t.val) 1024) ∗ Holds (F := F) (thr d L) pos (fun q => P (q 0).val))
      ⊢ run d L (clearTrip (F := F) L st pos t off h C dec hin)
          fun _ => iprop(Holds (thr d L) st (hot P (16 * (t.val + 1)) 1024) ∗ Holds (thr d L) pos (fun q => P (q 0).val)) := by
  unfold clearTrip
  simp only [Prog.lift, Prog.bind_op, Prog.bind_ret, Prog.pure_eq_ret]
  iintro ⟨Hst, Hpos⟩
  iapply (holds_load Variants.none (thr d L) none) $$ Hpos
  iintro %g %hgd Hpos
  have hg : ∀ k : Fin 16, g (Shape.ofLane (d := ![16]) k) = P (16 * t.val + k.val) :=
    fun k => (congrFun hgd _).trans (kept_load P t off ho h k)
  have hlt : ∀ l, (g l).toNat < 33 := fun l => by rw [hgd]; exact hP _
  iapply (wp_assume Variants.none (thr d L) none Set.univ (hC g (idx5_inb hlt (pay1_lt t) (pay2_lt t))))
  iapply (holds_storeIdx Variants.none (thr d L) none _ (clear_step P t hg _ rfl _)) $$ Hst
  iintro Hst
  rw [wp_ret]; imodintro
  isplitl [Hst] <;> iassumption

/-- The clearing walk over a tile whose ones are at the bins kept: all zeros. -/
theorem clear_walk (P : ℕ → BitVec 32) (hP : ∀ p, (P p).toNat < 33) {hok : k0_t7_loop.OK} {body : Fin k0_t7_loop.trips → Unit → Code F L Unit}
    (off : Fin k0_t7_loop.trips → Fin 1 → ℕ) (ho : ∀ t, off t = ![16 * t.val]) (h : ∀ t a, off t a + S16.size a ≤ S1024.size a)
    (C : Fin k0_t7_loop.trips → IVec S16 32 → Prop) (dec : ∀ t g, Decidable (C t g))
    (hin : ∀ t g, C t g → ∀ a x, (idx5 g (k0_pay1 zeros t) (k0_pay2 lanes t) a x).toNat < S33x1x1x8x128.size a)
    (hC : ∀ t g, (∀ a x, (idx5 g (k0_pay1 zeros t) (k0_pay2 lanes t) a x).toNat < S33x1x1x8x128.size a) → C t g)
    (hbody : ∀ t u, body t u = clearTrip (F := F) L st pos t (off t) (h t) (C t) (dec t) (hin t))
    {α : Type} {k : Unit → Code F L α} {Q : α → sProp (MT nD τ sig (HIx 1) (Elt F) ℕ (UU nD τ sig) ℕ)} :
    iprop(Holds (F := F) (thr d L) st (hot P 0 1024) ∗ Holds (F := F) (thr d L) pos (fun q => P (q 0).val))
      ⊢ iprop((Holds (F := F) (thr d L) st (fun _ => zero) ∗ Holds (F := F) (thr d L) pos (fun q => P (q 0).val) -∗ run d L (k ⟨⟩) Q)
          -∗ run d L (Scf.Loop.for k0_t7_loop hok ⟨⟩ body >>= k) Q) := by
  iintro H Hk
  iapply (Scf.wp_for_bind frame (wpE (defs₀ (F := F)) Variants.none (thr d L) none) Set.univ _ _ _ hok ⟨⟩ body
    (fun n _ => iprop(Holds (F := F) (thr d L) st (hot P (16 * n) 1024) ∗ Holds (F := F) (thr d L) pos (fun q => P (q 0).val)))
    (fun t u => by
      rw [hbody]
      exact clear_trip d L st pos P hP t (off t) (ho t) (h t) (C t) (dec t) (hin t) (hC t))) $$ H
  iintro %u H
  rw [show 16 * Scf.trips k0_t7_loop.lb k0_t7_loop.ub k0_t7_loop.st = 1024 from by decide +kernel, hot_none P 1024 1024 (.inl le_rfl)]
  iapply Hk $$ H

/-! ## Setting -/

/-- One trip of the setting walk: sixteen values are loaded, their bins computed — a guess, and two looks at the table —,
    ones stored where the bins point, and the bins kept. -/
def setTrip (t : Fin k0_t8_loop.trips) (offx : Fin 4 → ℕ) (hx : ∀ a, offx a + S1x1x1x16.size a ≤ S25x1x8x128.size a)
    (off : Fin 1 → ℕ) (h : ∀ a, off a + S16.size a ≤ S1024.size a) : Code F L Unit := do
  let ld : Vec F S1x1x1x16 .f32 ← Prog.lift (.load inp (Rect.unit (s := S25x1x8x128) offx S1x1x1x16.size hx).toLoadRect (View.loadsAt_vmem h_S1x1x1x16))
  let own := (← Prog.lift (TpuEff.assume (k0_chk12 (k0_pay16 ld)) (k0_chk12.dec _))).down
  let next := (← Prog.lift (TpuEff.assume (k0_chk11 (k0_pay17 (k0_pay16 ld))) (k0_chk11.dec _))).down
  let up : Vec F S16 .f32 ← SparseCore.vectorLoadIdx brk ![k0_pay17 (k0_pay16 ld)] (k0_idx12_inb _ next) (View.loads_vmem h_S48)
  let low : Vec F S16 .f32 ← SparseCore.vectorLoadIdx brk ![k0_pay16 ld] (k0_idx13_inb _ own) (View.loads_vmem h_S48)
  let hw := (← Prog.lift (TpuEff.assume (k0_chk13 zeros (k0_pay18 ld (k0_pay16 ld) up low) (k0_pay1 zeros t) (k0_pay2 lanes t)) (k0_chk13.dec _ _ _ _))).down
  SparseCore.vectorStoreIdx st (idx5 (k0_pay18 ld (k0_pay16 ld) up low) (k0_pay1 zeros t) (k0_pay2 lanes t)) (k0_pay21 (F := F)) (fun _ => 1#1) false
    (k0_idx14_inb _ _ _ _ hw) (View.stores_vmem_bits_univ h_S33x1x1x8x128 rfl)
  let _ : Vec F S16 .i32 ← Prog.lift (.load pos (Rect.unit (s := S1024) off S16.size h).toLoadRect (View.loadsAt_vmem h_S16))
  Prog.lift (.store pos (Rect.unit (s := S1024) off S16.size h) (k0_pay18 ld (k0_pay16 ld) up low) Finset.univ (View.stores_vmem_bits_univ h_S16 rfl) (.inl rfl))
  pure ⟨⟩

theorem set_trip (b : S48.Idx → F .f32) (x : S25x1x8x128.Idx → F .f32) (hin : ∀ j, Inside b (x j)) (n : ℕ) (hn : n < 25)
    (t : Fin k0_t8_loop.trips) (offx : Fin 4 → ℕ) (hox : offx = ![n, 0, t.val / 8, t.val % 8 * 16]) (hx)
    (off : Fin 1 → ℕ) (ho : off = ![16 * t.val]) (h) (f : S1024.Idx → BitVec 32) :
    iprop(Holds (F := F) (thr d L) st (hot (bins b x n) 0 (16 * t.val)) ∗ Holds (F := F) (thr d L) pos (kept (bins b x n) t.val f)
        ∗ Holds (F := F) (thr d L) inp x ∗ Holds (F := F) (thr d L) brk b)
      ⊢ run d L (setTrip (F := F) L st pos inp brk t offx hx off h)
          fun _ => iprop(Holds (F := F) (thr d L) st (hot (bins b x n) 0 (16 * (t.val + 1))) ∗ Holds (F := F) (thr d L) pos (kept (bins b x n) (t.val + 1) f)
            ∗ Holds (F := F) (thr d L) inp x ∗ Holds (F := F) (thr d L) brk b) := by
  unfold setTrip
  simp only [Prog.lift, Prog.bind_op, Prog.bind_ret, Prog.pure_eq_ret]
  iintro ⟨Hst, Hpos, Hinp, Hbrk⟩
  iapply (holds_load Variants.none (thr d L) none) $$ Hinp
  iintro %ld %hld Hinp
  have hv : ∀ k : Fin 16, k0_pay15 ld (Shape.ofLane (d := ![16]) k) = x (cell n (16 * t.val + k.val)) := fun k => by
    rw [hld]; exact row_load x n hn t offx hox hx k
  iapply (wp_assume Variants.none (thr d L) none Set.univ (chk12_guess ld))
  iapply (wp_assume Variants.none (thr d L) none Set.univ (chk11_guess ld))
  iapply (holds_loadIdx Variants.none (thr d L) none) $$ Hbrk
  iintro %up %hup Hbrk
  iapply (holds_loadIdx Variants.none (thr d L) none) $$ Hbrk
  iintro %low %hlow Hbrk
  have hb : ∀ l, k0_pay18 ld (k0_pay16 ld) up low l = bin b (k0_pay15 ld l) := fun l => by
    rw [hup, hlow]; exact pay18_bin b ld _ _ l
  have hg : ∀ k : Fin 16, k0_pay18 ld (k0_pay16 ld) up low (Shape.ofLane (d := ![16]) k) = bins b x n (16 * t.val + k.val) := fun k =>
    (hb _).trans (congrArg (bin b) (hv k))
  have hlt : ∀ l, (k0_pay18 ld (k0_pay16 ld) up low l).toNat < 33 := fun l => by
    obtain ⟨k, rfl⟩ := lane_eq l
    rw [hg]; exact bin_lt (hin _)
  iapply (wp_assume Variants.none (thr d L) none Set.univ (idx5_inb hlt (pay1_lt t) (pay2_lt t)))
  iapply (holds_storeIdx Variants.none (thr d L) none _ (set_step (bins b x n) t hg _ rfl _)) $$ Hst
  iintro Hst
  iapply (holds_load Variants.none (thr d L) none) $$ Hpos
  iintro %old - Hpos
  iapply (holds_store Variants.none (thr d L) none (kept (bins b x n) (t.val + 1) f) (kept_store_in (bins b x n) t off ho h f hg)
    (kept_store_out (bins b x n) t off ho h f)) $$ Hpos
  iintro Hpos
  rw [wp_ret]; imodintro
  isplitl [Hst]; · iexact Hst
  isplitl [Hpos]; · iexact Hpos
  isplitl [Hinp] <;> iassumption

/-- The setting walk over slab `n` into a tile of zeros: the tile has exactly the ones of the slab's bins, and the places'
    buffer the bins. -/
theorem set_walk (b : S48.Idx → F .f32) (x : S25x1x8x128.Idx → F .f32) (hin : ∀ j, Inside b (x j)) (n : ℕ) (hn : n < 25)
    {hok : k0_t8_loop.OK} {body : Fin k0_t8_loop.trips → Unit → Code F L Unit}
    (offx : Fin k0_t8_loop.trips → Fin 4 → ℕ) (hox : ∀ t, offx t = ![n, 0, t.val / 8, t.val % 8 * 16])
    (hx : ∀ t a, offx t a + S1x1x1x16.size a ≤ S25x1x8x128.size a)
    (off : Fin k0_t8_loop.trips → Fin 1 → ℕ) (ho : ∀ t, off t = ![16 * t.val]) (h : ∀ t a, off t a + S16.size a ≤ S1024.size a)
    (hbody : ∀ t u, body t u = setTrip (F := F) L st pos inp brk t (offx t) (hx t) (off t) (h t))
    {α : Type} {k : Unit → Code F L α} {Q : α → sProp (MT nD τ sig (HIx 1) (Elt F) ℕ (UU nD τ sig) ℕ)} :
    iprop(Holds (F := F) (thr d L) st (fun _ => zero) ∗ Owns (F := F) (thr d L) pos
        ∗ Holds (F := F) (thr d L) inp x ∗ Holds (F := F) (thr d L) brk b)
      ⊢ iprop((Holds (F := F) (thr d L) st (hot (bins b x n) 0 1024) ∗ Holds (F := F) (thr d L) pos (fun q => bins b x n (q 0).val)
            ∗ Holds (F := F) (thr d L) inp x ∗ Holds (F := F) (thr d L) brk b -∗ run d L (k ⟨⟩) Q)
          -∗ run d L (Scf.Loop.for k0_t8_loop hok ⟨⟩ body >>= k) Q) := by
  iintro ⟨Hst, Hpos, Hrest⟩ Hk
  ihave Hpos := (owns_holds (F := F) (thr d L) pos) $$ Hpos
  icases Hpos with ⟨%f, Hpos⟩
  iapply (Scf.wp_for_bind frame (wpE (defs₀ (F := F)) Variants.none (thr d L) none) Set.univ _ _ _ hok ⟨⟩ body
    (fun m _ => iprop(Holds (F := F) (thr d L) st (hot (bins b x n) 0 (16 * m)) ∗ Holds (F := F) (thr d L) pos (kept (bins b x n) m f)
        ∗ Holds (F := F) (thr d L) inp x ∗ Holds (F := F) (thr d L) brk b))
    (fun t u => by
      rw [hbody]
      exact set_trip d L st pos inp brk b x hin n hn t (offx t) (hox t) (hx t) (off t) (ho t) (h t) f)) $$ [Hst Hpos Hrest]
  · rw [hot_none _ _ _ (.inl le_rfl), kept_zero]
    isplitl [Hst]; · iexact Hst
    isplitl [Hpos] <;> iassumption
  iintro %u H
  rw [show Scf.trips k0_t8_loop.lb k0_t8_loop.ub k0_t8_loop.st = 64 from by decide +kernel, kept_all]
  iapply Hk $$ H

/-! ## Zeroing -/

/-- One trip of the zeroing walk, over both staging tiles. -/
def zeroTrip (st' : Memref sig .scVector .vmem S33x1x1x8x128 .f32) (t : Fin k0_t1_loop.trips) : Code F L Unit := do
  let hw := (← Prog.lift (TpuEff.assume (k0_chk1 zeros (k0_pay24 t) (k0_pay26 t) (k0_pay27 t)) (k0_chk1.dec _ _ _ _))).down
  SparseCore.vectorStoreIdx st (idx5 (k0_pay24 t) (k0_pay26 t) (k0_pay27 t)) (k0_pay22 (F := F)) (fun _ => 1#1) false
    (k0_idx1_inb _ _ _ _ hw) (View.stores_vmem_bits_univ h_S33x1x1x8x128 rfl)
  SparseCore.vectorStoreIdx st' (idx5 (k0_pay24 t) (k0_pay26 t) (k0_pay27 t)) (k0_pay22 (F := F)) (fun _ => 1#1) false
    (k0_idx2_inb _ _ _ _ hw) (View.stores_vmem_bits_univ h_S33x1x1x8x128 rfl)
  pure ⟨⟩

theorem zero_trip (st' : Memref sig .scVector .vmem S33x1x1x8x128 .f32) (t : Fin k0_t1_loop.trips) (f f' : S33x1x1x8x128.Idx → F .f32) :
    iprop(Holds (F := F) (thr d L) st (zeroed t.val f) ∗ Holds (F := F) (thr d L) st' (zeroed t.val f'))
      ⊢ run d L (zeroTrip (F := F) L st st' t)
          fun _ => iprop(Holds (F := F) (thr d L) st (zeroed (t.val + 1) f) ∗ Holds (F := F) (thr d L) st' (zeroed (t.val + 1) f')) := by
  unfold zeroTrip
  simp only [Prog.lift, Prog.bind_op, Prog.bind_ret, Prog.pure_eq_ret]
  iintro ⟨Hst, Hst'⟩
  iapply (wp_assume Variants.none (thr d L) none Set.univ ⟨zero_inb t, zero_inb t⟩)
  iapply (holds_storeIdx Variants.none (thr d L) none _ (zero_step t f _ rfl _)) $$ Hst
  iintro Hst
  iapply (holds_storeIdx Variants.none (thr d L) none _ (zero_step t f' _ rfl _)) $$ Hst'
  iintro Hst'
  rw [wp_ret]; imodintro
  isplitl [Hst] <;> iassumption

/-- The zeroing walk: both staging tiles are zero. -/
theorem zero_walk (st' : Memref sig .scVector .vmem S33x1x1x8x128 .f32) {hok : k0_t1_loop.OK} {body : Fin k0_t1_loop.trips → Unit → Code F L Unit}
    (hbody : ∀ t u, body t u = zeroTrip (F := F) L st st' t)
    {α : Type} {k : Unit → Code F L α} {Q : α → sProp (MT nD τ sig (HIx 1) (Elt F) ℕ (UU nD τ sig) ℕ)} :
    iprop(Owns (F := F) (thr d L) st ∗ Owns (F := F) (thr d L) st')
      ⊢ iprop((Holds (F := F) (thr d L) st (fun _ => zero) ∗ Holds (F := F) (thr d L) st' (fun _ => zero) -∗ run d L (k ⟨⟩) Q)
          -∗ run d L (Scf.Loop.for k0_t1_loop hok ⟨⟩ body >>= k) Q) := by
  iintro ⟨Hst, Hst'⟩ Hk
  ihave Hst := (owns_holds (F := F) (thr d L) st) $$ Hst
  icases Hst with ⟨%f, Hst⟩
  ihave Hst' := (owns_holds (F := F) (thr d L) st') $$ Hst'
  icases Hst' with ⟨%f', Hst'⟩
  iapply (Scf.wp_for_bind frame (wpE (defs₀ (F := F)) Variants.none (thr d L) none) Set.univ _ _ _ hok ⟨⟩ body
    (fun m _ => iprop(Holds (F := F) (thr d L) st (zeroed m f) ∗ Holds (F := F) (thr d L) st' (zeroed m f')))
    (fun t u => by rw [hbody]; exact zero_trip d L st st' t f f')) $$ [Hst Hst']
  · rw [zeroed_zero, zeroed_zero]
    isplitl [Hst] <;> iassumption
  iintro %u H
  rw [show Scf.trips k0_t1_loop.lb k0_t1_loop.ub k0_t1_loop.st = 2112 from by decide +kernel, zeroed_all, zeroed_all]
  iapply Hk $$ H

end Cert.Proof.OneHot
-- ==== Proof.Bodies.lean ====
/-
  The bodies of the kernel's loops, on one vector subcore, are the trips of the three walks. The kernel's two staging
  tiles have a loop each of its own, of the same text; here each is named, on the subcore's own buffers, and identified.
-/
module

public import proofs.«01_k».proof.Proof.Walks

@[expose] public section

noncomputable section

namespace Cert.Proof.OneHot

open Cert.KernelIdeal Cert.KernelIdeal.Gen
open Idealize.ShloMosaic

variable {F : FTy → Type} [FloatOps F]

/-! ## The arrays and the buffers -/

/-- The input in slabs, the table of boundaries and the output in slabs, as a vector subcore names them. -/
abbrev xV : Memref sig .scVector .hbm S25x32x8x128 .f32 := Memref.whole main_v3_scv
abbrev bV : Memref sig .scVector .hbm S48 .f32 := Memref.whole main_v1_scv
abbrev oV : Memref sig .scVector .hbm S33x25x32x8x128 .f32 := Memref.whole main_v4_scv

/-- A subcore's two staging tiles, its slabs of the input, its two places' buffers, its copy of the table. -/
abbrev stage0 : Memref sig .scVector .vmem S33x1x1x8x128 .f32 := Memref.whole cc0_scratch0
abbrev stage1 : Memref sig .scVector .vmem S33x1x1x8x128 .f32 := Memref.whole cc0_scratch1
abbrev input : Memref sig .scVector .vmem S25x1x8x128 .f32 := Memref.whole cc0_scratch2
abbrev pos0 : Memref sig .scVector .vmem S1024 .i32 := Memref.whole cc0_scratch3
abbrev pos1 : Memref sig .scVector .vmem S1024 .i32 := Memref.whole cc0_scratch4
abbrev table : Memref sig .scVector .vmem S48 .f32 := Memref.whole cc0_scratch5

variable (L : grid0.Coords)

/-- The subcore's task. -/
abbrev task : Code F L PUnit :=
  cc0__sc_onehot (F := F) L xV (Memref.isWhole_whole _) bV (Memref.isWhole_whole _) oV (Memref.isWhole_whole _) stage0 (Memref.isWhole_whole _)
    stage1 (Memref.isWhole_whole _) input (Memref.isWhole_whole _) pos0 (Memref.isWhole_whole _) pos1 (Memref.isWhole_whole _) table
    (Memref.isWhole_whole _) cc0_scratch6 cc0_scratch7 cc0_scratch8 cc0_scoped0

/-- The zeroing loop's body. -/
abbrev zeroBody := k0_t1_body (F := F) L xV (Memref.isWhole_whole _) bV (Memref.isWhole_whole _) oV (Memref.isWhole_whole _) stage0 (Memref.isWhole_whole _)
    stage1 (Memref.isWhole_whole _) input (Memref.isWhole_whole _) pos0 (Memref.isWhole_whole _) pos1 (Memref.isWhole_whole _) table
    (Memref.isWhole_whole _) cc0_scratch6 cc0_scratch7 cc0_scratch8 cc0_scoped0 zeros

/-- The main loop's body. -/
abbrev mainBody := k0_t2_body (F := F) L xV (Memref.isWhole_whole _) bV (Memref.isWhole_whole _) oV (Memref.isWhole_whole _) stage0 (Memref.isWhole_whole _)
    stage1 (Memref.isWhole_whole _) input (Memref.isWhole_whole _) pos0 (Memref.isWhole_whole _) pos1 (Memref.isWhole_whole _) table
    (Memref.isWhole_whole _) cc0_scratch6 cc0_scratch7 cc0_scratch8 cc0_scoped0 lanes zeros

/-- Within it, the clearing and the setting of the first staging tile, -/
abbrev clearBody0 (t2 : Fin k0_t2_loop.trips) (h1 : k0_cond1 t2 = 1#1) := k0_t3_body (F := F) L xV (Memref.isWhole_whole _) bV (Memref.isWhole_whole _) oV (Memref.isWhole_whole _) stage0 (Memref.isWhole_whole _)
    stage1 (Memref.isWhole_whole _) input (Memref.isWhole_whole _) pos0 (Memref.isWhole_whole _) pos1 (Memref.isWhole_whole _) table
    (Memref.isWhole_whole _) cc0_scratch6 cc0_scratch7 cc0_scratch8 cc0_scoped0 zeros t2 h1

abbrev setBody0 (t2 : Fin k0_t2_loop.trips) (v : BitVec 32) := k0_t4_body (F := F) L xV (Memref.isWhole_whole _) bV (Memref.isWhole_whole _) oV (Memref.isWhole_whole _) stage0 (Memref.isWhole_whole _)
    stage1 (Memref.isWhole_whole _) input (Memref.isWhole_whole _) pos0 (Memref.isWhole_whole _) pos1 (Memref.isWhole_whole _) table
    (Memref.isWhole_whole _) cc0_scratch6 cc0_scratch7 cc0_scratch8 cc0_scoped0 lanes zeros t2 v

/-- of the second, -/
abbrev clearBody1 (t2 : Fin k0_t2_loop.trips) (h2 : k0_cond2 t2 = 1#1) := k0_t5_body (F := F) L xV (Memref.isWhole_whole _) bV (Memref.isWhole_whole _) oV (Memref.isWhole_whole _) stage0 (Memref.isWhole_whole _)
    stage1 (Memref.isWhole_whole _) input (Memref.isWhole_whole _) pos0 (Memref.isWhole_whole _) pos1 (Memref.isWhole_whole _) table
    (Memref.isWhole_whole _) cc0_scratch6 cc0_scratch7 cc0_scratch8 cc0_scoped0 zeros t2 h2

abbrev setBody1 (t2 : Fin k0_t2_loop.trips) (v : BitVec 32) := k0_t6_body (F := F) L xV (Memref.isWhole_whole _) bV (Memref.isWhole_whole _) oV (Memref.isWhole_whole _) stage0 (Memref.isWhole_whole _)
    stage1 (Memref.isWhole_whole _) input (Memref.isWhole_whole _) pos0 (Memref.isWhole_whole _) pos1 (Memref.isWhole_whole _) table
    (Memref.isWhole_whole _) cc0_scratch6 cc0_scratch7 cc0_scratch8 cc0_scoped0 lanes zeros t2 v

/-- and after it, of the first again, for the last slab. -/
abbrev clearBody2 := k0_t7_body (F := F) L xV (Memref.isWhole_whole _) bV (Memref.isWhole_whole _) oV (Memref.isWhole_whole _) stage0 (Memref.isWhole_whole _)
    stage1 (Memref.isWhole_whole _) input (Memref.isWhole_whole _) pos0 (Memref.isWhole_whole _) pos1 (Memref.isWhole_whole _) table
    (Memref.isWhole_whole _) cc0_scratch6 cc0_scratch7 cc0_scratch8 cc0_scoped0 lanes k0_pay22 zeros

abbrev setBody2 := k0_t8_body (F := F) L xV (Memref.isWhole_whole _) bV (Memref.isWhole_whole _) oV (Memref.isWhole_whole _) stage0 (Memref.isWhole_whole _)
    stage1 (Memref.isWhole_whole _) input (Memref.isWhole_whole _) pos0 (Memref.isWhole_whole _) pos1 (Memref.isWhole_whole _) table
    (Memref.isWhole_whole _) cc0_scratch6 cc0_scratch7 cc0_scratch8 cc0_scoped0 lanes k0_pay21 zeros

/-! ## Each is a trip of a walk -/

theorem zeroBody_eq (t : Fin k0_t1_loop.trips) (u : Unit) : zeroBody (F := F) L t u = zeroTrip (F := F) L stage0 stage1 t := rfl

theorem clearBody2_eq (t : Fin k0_t7_loop.trips) (u : Unit) :
    clearBody2 (F := F) L t u = clearTrip (F := F) L stage0 pos0 t (k0_off9 t) (k0_off9_inb t) (fun g => k0_chk10 zeros (k0_pay1 zeros t) (k0_pay2 lanes t) g)
      (fun g => k0_chk10.dec _ _ _ _) (fun g hw => k0_idx11_inb _ _ _ _ hw) := rfl

theorem clearBody0_eq (t2 : Fin k0_t2_loop.trips) (h1 : k0_cond1 t2 = 1#1) (t : Fin k0_t7_loop.trips) (u : Unit) :
    clearBody0 (F := F) L t2 h1 t u = clearTrip (F := F) L stage0 pos0 t (k0_off2 t) (k0_off2_inb t2 t h1)
      (fun g => k0_chk2 zeros t2 (k0_pay1 zeros t) (k0_pay2 lanes t) g)
      (fun g => k0_chk2.dec _ _ _ _ _) (fun g hw => k0_idx3_inb _ _ _ _ _ hw h1) := rfl

theorem clearBody1_eq (t2 : Fin k0_t2_loop.trips) (h2 : k0_cond2 t2 = 1#1) (t : Fin k0_t7_loop.trips) (u : Unit) :
    clearBody1 (F := F) L t2 h2 t u = clearTrip (F := F) L stage1 pos1 t (k0_off6 t) (k0_off6_inb t2 t h2)
      (fun g => k0_chk6 zeros t2 (k0_pay1 zeros t) (k0_pay2 lanes t) g)
      (fun g => k0_chk6.dec _ _ _ _ _) (fun g hw => k0_idx7_inb _ _ _ _ _ hw h2) := rfl

theorem setBody2_eq (t : Fin k0_t8_loop.trips) (u : Unit) :
    setBody2 (F := F) L t u = setTrip (F := F) L stage0 pos0 input table t (k0_off10 t) (k0_off10_inb t) (k0_off11 t) (k0_off11_inb t) := rfl

theorem setBody0_eq (t2 : Fin k0_t2_loop.trips) (v : BitVec 32) (t : Fin k0_t8_loop.trips) (u : Unit) :
    setBody0 (F := F) L t2 v t u
      = setTrip (F := F) L stage0 pos0 input table t (k0_off3 t2 t) (k0_off3_inb t2 t) (k0_off4 t) (k0_off4_inb t) := rfl

theorem setBody1_eq (t2 : Fin k0_t2_loop.trips) (v : BitVec 32) (t : Fin k0_t8_loop.trips) (u : Unit) :
    setBody1 (F := F) L t2 v t u
      = setTrip (F := F) L stage1 pos1 input table t (k0_off7 t2 t) (k0_off7_inb t2 t) (k0_off8 t) (k0_off8_inb t) := rfl

end Cert.Proof.OneHot
-- ==== Proof.Task.lean ====
/-
  The staging of the output on one vector subcore. The subcore owns 25 slabs of the output; it makes each in one of its two
  staging tiles and sends it out, and before it makes another in the same tile it waits for the sending and clears the
  ones it had set. What the subcore holds is carried with its value: a slab sent out has its ones exactly at its bins.
-/
module

public import proofs.«01_k».proof.Proof.Bodies

@[expose] public section

noncomputable section

namespace Cert.Proof.OneHot

open Cert.KernelIdeal Cert.KernelIdeal.Gen
open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU nD τ sig) ℕ

variable (d : Dev nD) (L : grid0.Coords)

/-! ## The slabs of the output -/

/-- Slab `n` of the subcore's column of the output (`n` below 25; beyond, slabs repeat). -/
def slabOff (n : ℕ) : Fin 5 → ℕ := ![0, n % 25, 2 * (L 1).val + (L 0).val, 0, 0]

theorem slab_inb (n : ℕ) : ∀ a, slabOff L n a + S33x1x1x8x128.size a ≤ S33x25x32x8x128.size a := by
  have h0 : (L 0).val < 2 := (L 0).isLt
  have h1 : (L 1).val < 16 := (L 1).isLt
  intro a
  fin_cases a
  · show 0 + 33 ≤ 33; omega
  · show n % 25 + 1 ≤ 25; omega
  · show 2 * (L 1).val + (L 0).val + 1 ≤ 32; omega
  · show 0 + 8 ≤ 8; omega
  · show 0 + 128 ≤ 128; omega

abbrev slab (n : ℕ) : Memref sig .scVector .hbm S33x1x1x8x128 .f32 :=
  oV.slice (Rect.unit (s := S33x25x32x8x128) (slabOff L n) S33x1x1x8x128.size (slab_inb L n)) (fun _ => rfl)

/-- What a slab's transfer counts. -/
abbrev credit : ℕ := (slab L 0).view.dmaCredit

/-- Slab `n` holds its one-hot rows. -/
abbrev Done (b : S48.Idx → F .f32) (x : S25x1x8x128.Idx → F .f32) (n : ℕ) : sProp 𝕄 :=
  Holds (F := F) (thr d L) (slab L n) (hot (bins b x n) 0 1024)

/-- The first `n` slabs are made; the slabs from `n` on are still to be made. -/
def Made (b : S48.Idx → F .f32) (x : S25x1x8x128.Idx → F .f32) (n : ℕ) : sProp 𝕄 := bigSep (Finset.range n) (Done d L b x)
def Rest (n : ℕ) : sProp 𝕄 := bigSep (Finset.Ico n 25) fun k => Owns (F := F) (thr d L) (slab L k)

theorem made_zero (b : S48.Idx → F .f32) (x : S25x1x8x128.Idx → F .f32) : (Made d L b x 0 : sProp 𝕄) = BI.emp := rfl

theorem made_succ (b : S48.Idx → F .f32) (x : S25x1x8x128.Idx → F .f32) (n : ℕ) :
    (Made d L b x (n + 1) : sProp 𝕄) = iprop(Done d L b x n ∗ Made d L b x n) := by
  unfold Made
  rw [Finset.range_add_one, bigSep_insert (by simp)]; rfl

theorem rest_succ (n : ℕ) (h : n < 25) : (Rest d L n : sProp 𝕄) = iprop(Owns (F := F) (thr d L) (slab L n) ∗ Rest d L (n + 1)) := by
  unfold Rest
  rw [show Finset.Ico n 25 = insert n (Finset.Ico (n + 1) 25) from by ext k; simp only [Finset.mem_insert, Finset.mem_Ico]; omega, bigSep_insert (by simp)]; rfl

/-! ## A staging tile on its way -/

section

variable (st : Memref sig .scVector .vmem S33x1x1x8x128 .f32) (pos : Memref sig .scVector .vmem S1024 .i32) (sem : DmaSem sig)
variable (b : S48.Idx → F .f32) (x : S25x1x8x128.Idx → F .f32)

/-- The staging tile is free: it is zero, its places' buffer is held, and nothing is in flight. -/
def Free : sProp 𝕄 :=
  iprop(Holds (F := F) (thr d L) st (fun _ => zero) ∗ Owns (F := F) (thr d L) pos ∗ semVal (thr d L, SemLoc.dma sem) 0)

/-- Slab `n` is in flight from the staging tile, and its bins are in the places' buffer. -/
def Busy (n : ℕ) : sProp 𝕄 :=
  iprop(Transfers.Flight EC (thr d L) (.dma sem) (none : HIx 1) (credit L)
      iprop(Done d L b x n ∗ Holds (F := F) (thr d L) st (hot (bins b x n) 0 1024))
    ∗ Holds (F := F) (thr d L) pos (fun q => bins b x n (q 0).val))

/-- The tile before trip `m` of the main loop, when it takes the slabs `j`, `2 + j`, `4 + j` and so on; and the slab
    that waiting for it gives back. -/
def Lane (j m : ℕ) : sProp 𝕄 := if m = 0 then Free d L st pos sem else Busy d L st pos sem b x (2 * (m - 1) + j)
def Back (j m : ℕ) : sProp 𝕄 := if m = 0 then BI.emp else Done d L b x (2 * (m - 1) + j)

theorem lane_zero (j : ℕ) : (Lane d L st pos sem b x j 0 : sProp 𝕄) = Free d L st pos sem := rfl
theorem lane_succ (j m : ℕ) : (Lane d L st pos sem b x j (m + 1) : sProp 𝕄) = Busy d L st pos sem b x (2 * m + j) := rfl

/-- A transfer of a full staging tile to its slab. -/
theorem send (n : ℕ) (off : Fin 5 → ℕ) (e : off = slabOff L n) {h : ∀ a, off a + S33x1x1x8x128.size a ≤ S33x25x32x8x128.size a}
    {hsrc hdst hsem} {α : Type} {k : PUnit → Code F L α} {Q : α → sProp (MT nD τ sig (HIx 1) (Elt F) ℕ (UU nD τ sig) ℕ)} :
    iprop(Holds (F := F) (thr d L) st (hot (bins b x n) 0 1024) ∗ Holds (F := F) (thr d L) pos (fun q => bins b x n (q 0).val)
        ∗ Owns (F := F) (thr d L) (slab L n) ∗ semVal (thr d L, SemLoc.dma sem) 0)
      ⊢ iprop((Busy d L st pos sem b x n -∗ run d L (k ⟨⟩) Q)
          -∗ run d L (.op (.enqueueDmaAs st (.here (oV.slice (Rect.unit (s := S33x25x32x8x128) off S33x1x1x8x128.size h) (fun _ => rfl))) .same (.dma sem) hsrc hdst hsem) k) Q) := by
  subst e
  unfold Busy
  iintro ⟨Hst, Hpos, Ho, Hv⟩ Hk
  iapply (holds_send Variants.none (thr d L) none (credit L) rfl (View.dmaCredit_pos _ (by decide))) $$ [Hst Ho Hv]
  · isplitl [Hst]; · iexact Hst
    isplitl [Ho] <;> iassumption
  iintro Hf
  iapply Hk
  isplitl [Hf] <;> iassumption

/-- Waiting for a slab in flight: the slab is made, and tile and places' buffer are as they were. -/
theorem arrive (n : ℕ) {hsrc hdst} {O : CellTallies nD τ sig (HIx 1)} {W : Waits sig (HIx 1)}
    {α : Type} {k : PUnit → Code F L α} {Q : α → sProp (MT nD τ sig (HIx 1) (Elt F) ℕ (UU nD τ sig) ℕ)} :
    iprop(Transfers.MayWaits (thr d L) (none : HIx 1) O ∗ Busy d L st pos sem b x n ∗ Owing (thr d L) O W)
      ⊢ iprop((iprop(Done d L b x n ∗ Holds (F := F) (thr d L) st (hot (bins b x n) 0 1024) ∗ Holds (F := F) (thr d L) pos (fun q => bins b x n (q 0).val)
              ∗ semVal (thr d L, SemLoc.dma sem) 0 ∗ Owing (thr d L) O W) -∗ run d L (k ⟨⟩) Q)
          -∗ run d L (.op (.waitDma2 sem st (oV.slice (Rect.unit (s := S33x25x32x8x128) ![0, 0, 0, 0, 0] S33x1x1x8x128.size
              inb_S33x25x32x8x128_S33x1x1x8x128_0_0_0_0_0) (fun _ => rfl)) hsrc hdst) k) Q) := by
  unfold Busy
  iintro ⟨Hm, ⟨Hf, Hpos⟩, HO⟩ Hk
  iapply (flight_wait Variants.none (thr d L) none (hsrc := hsrc) (hdst := hdst) (N := credit L) rfl) $$ [Hm Hf HO]
  · isplitl [Hm]; · iexact Hm
    isplitl [Hf] <;> iassumption
  iintro ⟨⟨Hd, Hst⟩, Hv, HO⟩
  iapply Hk
  isplitl [Hd]; · iexact Hd
  isplitl [Hst]; · iexact Hst
  isplitl [Hpos]; · iexact Hpos
  isplitl [Hv] <;> iassumption

/-- Waiting for a slab in flight and clearing its ones: the slab is made and the tile free. -/
theorem recycle (hin : ∀ j, Inside b (x j)) (n : ℕ) {hsrc hdst} {hok : k0_t7_loop.OK} {body : Fin k0_t7_loop.trips → Unit → Code F L Unit}
    (off : Fin k0_t7_loop.trips → Fin 1 → ℕ) (ho : ∀ t, off t = ![16 * t.val]) (h : ∀ t a, off t a + S16.size a ≤ S1024.size a)
    (C : Fin k0_t7_loop.trips → IVec S16 32 → Prop) (dec : ∀ t g, Decidable (C t g))
    (hidx : ∀ t g, C t g → ∀ a x, (idx5 g (k0_pay1 zeros t) (k0_pay2 lanes t) a x).toNat < S33x1x1x8x128.size a)
    (hC : ∀ t g, (∀ a x, (idx5 g (k0_pay1 zeros t) (k0_pay2 lanes t) a x).toNat < S33x1x1x8x128.size a) → C t g)
    (hbody : ∀ t u, body t u = clearTrip (F := F) L st pos t (off t) (h t) (C t) (dec t) (hidx t))
    {O : CellTallies nD τ sig (HIx 1)} {W : Waits sig (HIx 1)}
    {α : Type} {k : Unit → Code F L α} {Q : α → sProp (MT nD τ sig (HIx 1) (Elt F) ℕ (UU nD τ sig) ℕ)} :
    iprop(Transfers.MayWaits (thr d L) (none : HIx 1) O ∗ Busy d L st pos sem b x n ∗ Owing (thr d L) O W)
      ⊢ iprop((iprop(Done d L b x n ∗ Free d L st pos sem ∗ Owing (thr d L) O W) -∗ run d L (k ⟨⟩) Q)
          -∗ run d L (.op (.waitDma2 sem st (oV.slice (Rect.unit (s := S33x25x32x8x128) ![0, 0, 0, 0, 0] S33x1x1x8x128.size
              inb_S33x25x32x8x128_S33x1x1x8x128_0_0_0_0_0) (fun _ => rfl)) hsrc hdst)
            fun _ => Scf.Loop.for k0_t7_loop hok ⟨⟩ body >>= k) Q) := by
  unfold Free
  iintro H Hk
  iapply (arrive d L st pos sem b x n (hsrc := hsrc) (hdst := hdst)) $$ H
  iintro ⟨Hd, Hst, Hpos, Hv, HO⟩
  iapply (clear_walk d L st pos (bins b x n) (fun p => bin_lt (hin _)) off ho h C dec hidx hC hbody) $$ [Hst Hpos]
  · isplitl [Hst] <;> iassumption
  iintro ⟨Hst, Hpos⟩
  iapply Hk
  ihave Hpos := (holds_owns (F := F) (thr d L) pos _) $$ Hpos
  isplitl [Hd]; · iexact Hd
  isplitr [HO]
  · isplitl [Hst]; · iexact Hst
    isplitl [Hpos] <;> iassumption
  · iexact HO

/-- The same under the main loop's condition, that this is not the tile's first slab. -/
theorem recycle_if (hin : ∀ j, Inside b (x j)) (j m : ℕ) {c : Prop} [Decidable c] (hc : c ↔ m ≠ 0)
    {hsrc hdst} {hok : c → k0_t7_loop.OK} {body : c → Fin k0_t7_loop.trips → Unit → Code F L Unit}
    (off : Fin k0_t7_loop.trips → Fin 1 → ℕ) (ho : ∀ t, off t = ![16 * t.val]) (h : c → ∀ t a, off t a + S16.size a ≤ S1024.size a)
    (C : Fin k0_t7_loop.trips → IVec S16 32 → Prop) (dec : ∀ t g, Decidable (C t g))
    (hidx : c → ∀ t g, C t g → ∀ a x, (idx5 g (k0_pay1 zeros t) (k0_pay2 lanes t) a x).toNat < S33x1x1x8x128.size a)
    (hC : ∀ t g, (∀ a x, (idx5 g (k0_pay1 zeros t) (k0_pay2 lanes t) a x).toNat < S33x1x1x8x128.size a) → C t g)
    (hbody : ∀ hc t u, body hc t u = clearTrip (F := F) L st pos t (off t) (h hc t) (C t) (dec t) (hidx hc t))
    {O : CellTallies nD τ sig (HIx 1)} {W : Waits sig (HIx 1)}
    {α : Type} {k : Code F L α} {Q : α → sProp (MT nD τ sig (HIx 1) (Elt F) ℕ (UU nD τ sig) ℕ)} :
    iprop(Transfers.MayWaits (thr d L) (none : HIx 1) O ∗ Lane d L st pos sem b x j m ∗ Owing (thr d L) O W)
      ⊢ iprop((iprop(Back d L b x j m ∗ Free d L st pos sem ∗ Owing (thr d L) O W) -∗ run d L k Q)
          -∗ run d L (if hc : c then
              .op (.waitDma2 sem st (oV.slice (Rect.unit (s := S33x25x32x8x128) ![0, 0, 0, 0, 0] S33x1x1x8x128.size
                  inb_S33x25x32x8x128_S33x1x1x8x128_0_0_0_0_0) (fun _ => rfl)) hsrc hdst)
                fun _ => Scf.Loop.for k0_t7_loop (hok hc) ⟨⟩ (body hc) >>= fun _ => k
            else k) Q) := by
  by_cases h0 : m = 0
  · subst h0
    rw [dif_neg (fun hc' => hc.mp hc' rfl), lane_zero]
    iintro ⟨-, Hl, HO⟩ Hk
    iapply Hk
    isplitr
    · unfold Back
      rw [if_pos rfl]
      exact Entails.refl _
    isplitl [Hl] <;> iassumption
  · have hc' : c := hc.mpr h0
    rw [dif_pos hc']
    unfold Lane Back
    rw [if_neg h0, if_neg h0]
    exact recycle d L st pos sem b x hin _ off ho (h hc') C dec (hidx hc') hC (hbody hc') (k := fun _ => k)

end

/-! ## The main loop -/

variable (b : S48.Idx → F .f32) (x : S25x1x8x128.Idx → F .f32)

theorem made_back (m : ℕ) :
    iprop(Made d L b x (2 * (m - 1)) ∗ Back d L b x 0 m ∗ Back d L b x 1 m) ⊢ (Made d L b x (2 * (m + 1 - 1)) : sProp 𝕄) := by
  obtain _ | m := m
  · iintro ⟨H, -, -⟩
    iexact H
  · show iprop(Made d L b x (2 * m) ∗ Done d L b x (2 * m) ∗ Done d L b x (2 * m + 1)) ⊢ (Made d L b x (2 * m + 1 + 1) : sProp 𝕄)
    rw [made_succ, made_succ]
    iintro ⟨H, H0, H1⟩
    isplitl [H1]; · iexact H1
    isplitl [H0] <;> iassumption

/-- Before trip `m` of the main loop: what the subcore holds. -/
def MainInv (O : CellTallies nD τ sig (HIx 1)) (W : Waits sig (HIx 1)) (m : ℕ) : sProp 𝕄 :=
  iprop(Transfers.MayWaits (thr d L) (none : HIx 1) O ∗ Rest d L (2 * m) ∗ Made d L b x (2 * (m - 1))
    ∗ Lane d L stage0 pos0 cc0_scratch7.sem b x 0 m ∗ Lane d L stage1 pos1 cc0_scratch8.sem b x 1 m
    ∗ Holds (F := F) (thr d L) input x ∗ Holds (F := F) (thr d L) table b ∗ Owing (thr d L) O W)

theorem cond1_iff : ∀ t2 : Fin k0_t2_loop.trips, k0_cond1 t2 = 1#1 ↔ t2.val ≠ 0 := by decide +kernel
theorem cond2_iff : ∀ t2 : Fin k0_t2_loop.trips, k0_cond2 t2 = 1#1 ↔ t2.val ≠ 0 := by decide +kernel

theorem off5_0 (t2 : Fin k0_t2_loop.trips) : k0_off5 L t2 0#32 = slabOff L (2 * t2.val) := by
  have ht : t2.val < 12 := t2.isLt
  rw [show (0#32 : BitVec 32) = BitVec.ofNat 32 (0 : Fin 2).val from rfl, k0_off5_eq]
  unfold slabOff
  rw [Nat.mod_eq_of_lt (by omega)]; rfl

theorem off5_1 (t2 : Fin k0_t2_loop.trips) : k0_off5 L t2 1#32 = slabOff L (2 * t2.val + 1) := by
  have ht : t2.val < 12 := t2.isLt
  rw [show (1#32 : BitVec 32) = BitVec.ofNat 32 (1 : Fin 2).val from rfl, k0_off5_eq]
  unfold slabOff
  rw [Nat.mod_eq_of_lt (by omega)]; rfl

set_option maxHeartbeats 4000000 in
/-- One trip of the main loop: two slabs, one from each tile. -/
theorem main_trip (hin : ∀ j, Inside b (x j)) (O : CellTallies nD τ sig (HIx 1)) (W : Waits sig (HIx 1)) (t2 : Fin k0_t2_loop.trips) (u : Unit) :
    MainInv d L b x O W t2.val ⊢ run d L (mainBody (F := F) L t2 u) fun _ => MainInv d L b x O W (t2.val + 1) := by
  have ht : t2.val < 12 := t2.isLt
  unfold MainInv mainBody k0_t2_body
  simp only [Prog.lift, Prog.bind_op, Prog.bind_ret, Prog.pure_eq_ret]
  rw [rest_succ d L (2 * t2.val) (by omega), rest_succ d L (2 * t2.val + 1) (by omega), lane_succ, lane_succ]
  iintro ⟨#Hm, ⟨Ho0, Ho1, Hrest⟩, Hmade, Hl0, Hl1, Hinp, Htab, HO⟩
  iapply (recycle_if d L stage0 pos0 cc0_scratch7.sem b x hin 0 t2.val (cond1_iff t2) k0_off2 k0_off2_eq (fun h1 t => k0_off2_inb t2 t h1)
    (fun t g => k0_chk2 zeros t2 (k0_pay1 zeros t) (k0_pay2 lanes t) g) (fun t g => k0_chk2.dec _ _ _ _ _) (fun h1 t g hw => k0_idx3_inb _ _ _ _ _ hw h1)
    (fun t g hg _ => hg) (fun h1 => clearBody0_eq L t2 h1)) $$ [Hl0 HO]
  · isplitr; · iexact Hm
    isplitl [Hl0] <;> iassumption
  unfold Free
  iintro ⟨Hb0, ⟨Hst, Hpos, Hv⟩, HO⟩
  iapply (set_walk d L stage0 pos0 input table b x hin (2 * t2.val) (by omega) (k0_off3 t2) (off3_eq t2) (k0_off3_inb t2) k0_off4 k0_off4_eq k0_off4_inb
    (setBody0_eq L t2 _)) $$ [Hst Hpos Hinp Htab]
  · isplitl [Hst]; · iexact Hst
    isplitl [Hpos]; · iexact Hpos
    isplitl [Hinp] <;> iassumption
  iintro ⟨Hst, Hpos, Hinp, Htab⟩
  iapply (send d L stage0 pos0 cc0_scratch7.sem b x (2 * t2.val) _ (off5_0 L t2)) $$ [Hst Hpos Ho0 Hv]
  · isplitl [Hst]; · iexact Hst
    isplitl [Hpos]; · iexact Hpos
    isplitl [Ho0] <;> iassumption
  iintro Hl0
  iapply (recycle_if d L stage1 pos1 cc0_scratch8.sem b x hin 1 t2.val (cond2_iff t2) k0_off6 k0_off6_eq (fun h2 t => k0_off6_inb t2 t h2)
    (fun t g => k0_chk6 zeros t2 (k0_pay1 zeros t) (k0_pay2 lanes t) g) (fun t g => k0_chk6.dec _ _ _ _ _) (fun h2 t g hw => k0_idx7_inb _ _ _ _ _ hw h2)
    (fun t g hg _ => hg) (fun h2 => clearBody1_eq L t2 h2)) $$ [Hl1 HO]
  · isplitr; · iexact Hm
    isplitl [Hl1] <;> iassumption
  unfold Free
  iintro ⟨Hb1, ⟨Hst, Hpos, Hv⟩, HO⟩
  iapply (set_walk d L stage1 pos1 input table b x hin (2 * t2.val + 1) (by omega) (k0_off7 t2) (off7_eq t2) (k0_off7_inb t2) k0_off8 k0_off8_eq k0_off8_inb
    (setBody1_eq L t2 _)) $$ [Hst Hpos Hinp Htab]
  · isplitl [Hst]; · iexact Hst
    isplitl [Hpos]; · iexact Hpos
    isplitl [Hinp] <;> iassumption
  iintro ⟨Hst, Hpos, Hinp, Htab⟩
  iapply (send d L stage1 pos1 cc0_scratch8.sem b x (2 * t2.val + 1) _ (off5_1 L t2)) $$ [Hst Hpos Ho1 Hv]
  · isplitl [Hst]; · iexact Hst
    isplitl [Hpos]; · iexact Hpos
    isplitl [Ho1] <;> iassumption
  iintro Hl1
  unfold run
  rw [wp_ret]; imodintro
  isplitr; · iexact Hm
  isplitl [Hrest]; · iexact Hrest
  isplitl [Hmade Hb0 Hb1]
  · iapply (made_back d L b x t2.val)
    isplitl [Hmade]; · iexact Hmade
    isplitl [Hb0] <;> iassumption
  isplitl [Hl0]; · iexact Hl0
  isplitl [Hl1]; · iexact Hl1
  isplitl [Hinp]; · iexact Hinp
  isplitl [Htab] <;> iassumption

end Cert.Proof.OneHot
-- ==== Proof.Tile.lean ====
/-
  The whole task of one vector subcore: it fetches the table and its column of the input, zeroes its staging tiles, makes
  its 25 slabs of the output and waits for them.
-/
module

public import proofs.«01_k».proof.Proof.Task

@[expose] public section

noncomputable section

namespace Cert.Proof.OneHot

open Cert.KernelIdeal Cert.KernelIdeal.Gen
open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU nD τ sig) ℕ

variable (d : Dev nD) (L : grid0.Coords)

/-- The subcore's column of the input: 25 slabs. -/
abbrev column : Memref sig .scVector .hbm S25x1x8x128 .f32 :=
  xV.slice (Rect.unit (s := S25x32x8x128) (k0_off1 L) S25x1x8x128.size (k0_off1_inb L)) (fun _ => rfl)

/-- The subcore's own buffers and counters, the counters at zero. -/
def Buffers : sProp 𝕄 :=
  iprop(Owns (F := F) (thr d L) stage0 ∗ Owns (F := F) (thr d L) stage1 ∗ Owns (F := F) (thr d L) input
    ∗ Owns (F := F) (thr d L) pos0 ∗ Owns (F := F) (thr d L) pos1 ∗ Owns (F := F) (thr d L) table)

def Counts : sProp 𝕄 :=
  iprop(semVal (thr d L, SemLoc.dma cc0_scratch6.sem) 0 ∗ semVal (thr d L, SemLoc.dma cc0_scratch7.sem) 0
    ∗ semVal (thr d L, SemLoc.dma cc0_scratch8.sem) 0 ∗ semVal (thr d L, SemLoc.dma cc0_scoped0.sem) 0)

/-- What the subcore is given: its column of the input, at `X`; a share of the table, at `B`; its slabs of the output. -/
def Given (q : PosShare TreeShare) (X : Buf (Elt F) (xV.view.loc (thr d L))) (B : Buf (Elt F) (bV.view.loc (thr d L))) : sProp 𝕄 :=
  iprop(((column L).view.loc (thr d L) ↦[(column L).view.set]{fullShare} X) ∗ (bV.view.loc (thr d L) ↦[bV.view.set]{q} B) ∗ Rest d L 0)

theorem made_last (b : S48.Idx → F .f32) (x : S25x1x8x128.Idx → F .f32) :
    iprop(Made d L b x 22 ∗ Done d L b x 22 ∗ Done d L b x 23 ∗ Done d L b x 24) ⊢ (Made d L b x 25 : sProp 𝕄) := by
  rw [made_succ d L b x 24, made_succ d L b x 23, made_succ d L b x 22]
  iintro ⟨H, H0, H1, H2⟩
  isplitl [H2]; · iexact H2
  isplitl [H1]; · iexact H1
  isplitl [H0] <;> iassumption

theorem off12_24 : k0_off12 L = slabOff L 24 := k0_off12_eq L

set_option maxHeartbeats 4000000 in
/-- The task, from what it is given to its slabs made. -/
theorem task_run (q : PosShare TreeShare) (X : Buf (Elt F) (xV.view.loc (thr d L))) (B : Buf (Elt F) (bV.view.loc (thr d L)))
    (hin : ∀ j, Inside (bV.view.read (Elt F) B) ((column L).view.read (Elt F) X j))
    (O : CellTallies nD τ sig (HIx 1)) (W : Waits sig (HIx 1)) :
    iprop(Transfers.MayWaits (thr d L) (none : HIx 1) O ∗ Given d L q X B ∗ Buffers d L ∗ Counts d L ∗ Owing (thr d L) O W)
      ⊢ run d L (task (F := F) L) fun _ =>
        iprop(Made d L (bV.view.read (Elt F) B) ((column L).view.read (Elt F) X) 25 ∗ Buffers d L ∗ Counts d L ∗ Owing (thr d L) O W) := by
  unfold task
  rw [cc0__sc_onehot_eq_skeleton]
  unfold cc0__sc_onehot_skel
  rw [k0_part4_eq_skeleton]
  unfold k0_part4_skel Given Buffers Counts
  simp only [Prog.lift, Prog.bind_op, Prog.bind_ret, Prog.pure_eq_ret, Prog.bind_assoc]
  iintro ⟨#Hm, ⟨Hx, Hb, Hrest⟩, ⟨Hst0, Hst1, Hinp, Hpos0, Hpos1, Htab⟩, ⟨Hvin, Hv0, Hv1, Hvs⟩, HO⟩
  iapply (holds_fetch Variants.none (thr d L) none (src := bV) (dst := table) _ rfl (View.dmaCredit_pos _ (by decide))) $$ [Hb Htab Hvs]
  · isplitl [Hb]; · iexact Hb
    isplitl [Htab] <;> iassumption
  iintro Hf
  iapply (flight_wait Variants.none (thr d L) none (sem := cc0_scoped0.sem) (dstw := table) rfl) $$ [Hf HO]
  · isplitr; · iexact Hm
    isplitl [Hf] <;> iassumption
  iintro ⟨Htab, Hvs, HO⟩
  iapply (holds_fetch Variants.none (thr d L) none (src := column L) (dst := input) _ rfl (View.dmaCredit_pos _ (by decide))) $$ [Hx Hinp Hvin]
  · isplitl [Hx]; · iexact Hx
    isplitl [Hinp] <;> iassumption
  iintro Hf
  iapply (zero_walk d L stage0 stage1 (zeroBody_eq L)) $$ [Hst0 Hst1]
  · isplitl [Hst0] <;> iassumption
  iintro ⟨Hst0, Hst1⟩
  iapply (flight_wait Variants.none (thr d L) none (sem := cc0_scratch6.sem) (dstw := input) rfl) $$ [Hf HO]
  · isplitr; · iexact Hm
    isplitl [Hf] <;> iassumption
  iintro ⟨Hinp, Hvin, HO⟩
  -- the main loop
  iapply (Scf.wp_for_bind frame (wpE (defs₀ (F := F)) Variants.none (thr d L) none) Set.univ _ _ _ k0_t2_ok ⟨⟩ (mainBody (F := F) L)
    (fun m _ => MainInv d L (bV.view.read (Elt F) B) ((column L).view.read (Elt F) X) O W m)
    (fun t u => main_trip d L _ _ hin O W t u)) $$ [Hrest Hst0 Hst1 Hpos0 Hpos1 Hv0 Hv1 Hinp Htab HO]
  · unfold MainInv
    rw [lane_zero, lane_zero]
    unfold Free
    isplitr; · iexact Hm
    isplitl [Hrest]; · iexact Hrest
    isplitr; · rw [made_zero]; iempintro
    isplitl [Hst0 Hpos0 Hv0]
    · isplitl [Hst0]; · iexact Hst0
      isplitl [Hpos0] <;> iassumption
    isplitl [Hst1 Hpos1 Hv1]
    · isplitl [Hst1]; · iexact Hst1
      isplitl [Hpos1] <;> iassumption
    isplitl [Hinp]; · iexact Hinp
    isplitl [Htab] <;> iassumption
  iintro %u H
  rw [show Scf.trips k0_t2_loop.lb k0_t2_loop.ub k0_t2_loop.st = 11 + 1 from by decide +kernel]
  unfold MainInv
  rw [lane_succ, lane_succ, rest_succ d L (2 * (11 + 1)) (by decide)]
  icases H with ⟨-, ⟨Ho, -⟩, Hmade, Hl0, Hl1, Hinp, Htab, HO⟩
  -- the last slab
  iapply (recycle d L stage0 pos0 cc0_scratch7.sem (bV.view.read (Elt F) B) ((column L).view.read (Elt F) X) hin (2 * 11 + 0) k0_off9 k0_off9_eq k0_off9_inb
    (fun t g => k0_chk10 zeros (k0_pay1 zeros t) (k0_pay2 lanes t) g) (fun t g => k0_chk10.dec _ _ _ _) (fun t g hw => k0_idx11_inb _ _ _ _ hw)
    (fun t g hg => hg) (clearBody2_eq L)) $$ [Hl0 HO]
  · isplitr; · iexact Hm
    isplitl [Hl0] <;> iassumption
  unfold Free
  iintro ⟨Hb0, ⟨Hst, Hpos, Hv⟩, HO⟩
  iapply (set_walk d L stage0 pos0 input table (bV.view.read (Elt F) B) ((column L).view.read (Elt F) X) hin 24 (by omega) k0_off10 off10_eq k0_off10_inb
    k0_off11 k0_off11_eq k0_off11_inb (setBody2_eq L)) $$ [Hst Hpos Hinp Htab]
  · isplitl [Hst]; · iexact Hst
    isplitl [Hpos]; · iexact Hpos
    isplitl [Hinp] <;> iassumption
  iintro ⟨Hst, Hpos, Hinp, Htab⟩
  iapply (send d L stage0 pos0 cc0_scratch7.sem (bV.view.read (Elt F) B) ((column L).view.read (Elt F) X) 24 _ (off12_24 L)) $$ [Hst Hpos Ho Hv]
  · isplitl [Hst]; · iexact Hst
    isplitl [Hpos]; · iexact Hpos
    isplitl [Ho] <;> iassumption
  iintro Hl0
  iapply (arrive d L stage0 pos0 cc0_scratch7.sem (bV.view.read (Elt F) B) ((column L).view.read (Elt F) X) 24) $$ [Hl0 HO]
  · isplitr; · iexact Hm
    isplitl [Hl0] <;> iassumption
  iintro ⟨Hd, Hst, Hpos, Hv, HO⟩
  iapply (arrive d L stage1 pos1 cc0_scratch8.sem (bV.view.read (Elt F) B) ((column L).view.read (Elt F) X) (2 * 11 + 1)) $$ [Hl1 HO]
  · isplitr; · iexact Hm
    isplitl [Hl1] <;> iassumption
  iintro ⟨Hd1, Hst1, Hpos1, Hv1, HO⟩
  unfold run
  rw [wp_ret]; imodintro
  ihave Hst := (holds_owns (F := F) (thr d L) stage0 _) $$ Hst
  ihave Hst1 := (holds_owns (F := F) (thr d L) stage1 _) $$ Hst1
  ihave Hinp := (holds_owns (F := F) (thr d L) input _) $$ Hinp
  ihave Htab := (holds_owns (F := F) (thr d L) table _) $$ Htab
  ihave Hpos := (holds_owns (F := F) (thr d L) pos0 _) $$ Hpos
  ihave Hpos1 := (holds_owns (F := F) (thr d L) pos1 _) $$ Hpos1
  isplitl [Hmade Hb0 Hd Hd1]
  · iapply (made_last d L (bV.view.read (Elt F) B) ((column L).view.read (Elt F) X))
    isplitl [Hmade]; · iexact Hmade
    isplitl [Hb0]; · iexact Hb0
    isplitl [Hd1] <;> iassumption
  isplitl [Hst Hst1 Hinp Hpos Hpos1 Htab]
  · isplitl [Hst]; · iexact Hst
    isplitl [Hst1]; · iexact Hst1
    isplitl [Hinp]; · iexact Hinp
    isplitl [Hpos]; · iexact Hpos
    isplitl [Hpos1] <;> iassumption
  isplitr [HO]
  · isplitl [Hvin]; · iexact Hvin
    isplitl [Hv]; · iexact Hv
    isplitl [Hv1] <;> iassumption
  · iexact HO

end Cert.Proof.OneHot
-- ==== Proof.Arrays.lean ====
/-
  The kernel's two arrays dealt to the thirty-two vector subcores and gathered again. The input in slabs is its columns;
  the output in slabs is, column by column, its slabs, and once every slab is made it is one array, `OUT`.
-/
module

public import proofs.«01_k».proof.Proof.Tile

@[expose] public section

noncomputable section

namespace Cert.Proof.OneHot

open Cert.KernelIdeal Cert.KernelIdeal.Gen
open Idealize.ShloMosaic
open Idealize.ShloMosaic.SparseCore (V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU nD τ sig) ℕ

/-! ## Dealing an array over the subcores -/

/-- An array whose elements are in thirty-two disjoint sets, one to a subcore, is held as they are. -/
theorem pts_deal {ℓ : Loc nD τ sig} (S : Fin 2 → Fin 16 → Finset (Idx ℓ)) (w : Idx ℓ → ℕ)
    (hS : ∀ c i y, y ∈ S c i ↔ w y = 2 * i.val + c.val) (hw : ∀ y, w y < 32) (q : PosShare TreeShare) (f : Buf (Elt F) ℓ) :
    (ℓ ↦{q} f : sProp 𝕄) = bigSep Finset.univ fun c => bigSep Finset.univ fun i => ℓ ↦[S c i]{q} f := by
  have one : ∀ c : Fin 2, (ℓ ↦[Finset.univ.biUnion (S c)]{q} f : sProp 𝕄) = bigSep Finset.univ fun i => ℓ ↦[S c i]{q} f := fun c =>
    pointsTo_biUnion Finset.univ (S c) fun i _ j _ hij => Finset.disjoint_left.mpr fun y hi hj => hij (by
      rw [hS] at hi hj; exact Fin.ext (by omega))
  have two : (ℓ ↦[Finset.univ.biUnion fun c => Finset.univ.biUnion (S c)]{q} f : sProp 𝕄)
      = bigSep Finset.univ fun c => ℓ ↦[Finset.univ.biUnion (S c)]{q} f :=
    pointsTo_biUnion Finset.univ _ fun c _ c' _ hcc => Finset.disjoint_left.mpr fun y hi hj => hcc (by
      simp only [Finset.mem_biUnion, Finset.mem_univ, true_and, hS] at hi hj
      obtain ⟨i, hi⟩ := hi; obtain ⟨j, hj⟩ := hj
      have := c.isLt; have := c'.isLt; exact Fin.ext (by omega))
  have all : (Finset.univ.biUnion fun c => Finset.univ.biUnion (S c)) = (Finset.univ : Finset (Idx ℓ)) := by
    refine Finset.eq_univ_iff_forall.mpr fun y => ?_
    simp only [Finset.mem_biUnion, Finset.mem_univ, true_and, hS]
    have := hw y
    exact ⟨⟨w y % 2, by omega⟩, ⟨w y / 2, by omega⟩, by show w y = 2 * (w y / 2) + w y % 2; omega⟩
  rw [all] at two
  rw [two]
  exact bigSep_congr fun c _ => one c

/-- Subcore `i` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-! ## The input's columns -/

abbrev xLoc (d : Dev nD) : Loc nD τ sig := (SparseCore.T d).loc main_v3
abbrev bLoc (d : Dev nD) : Loc nD τ sig := (SparseCore.T d).loc main_v1
abbrev oLoc (d : Dev nD) : Loc nD τ sig := (SparseCore.T d).loc main_v4

variable (d : Dev nD) (L : grid0.Coords)

/-- The elements of a subcore's column of the input. -/
def columnSet : Finset S25x32x8x128.Idx := (column L).view.set

theorem mem_column (y : S25x32x8x128.Idx) : y ∈ columnSet L ↔ (y 1).val = 2 * (L 1).val + (L 0).val := by
  have e : columnSet L = (Rect.unit (s := S25x32x8x128) (k0_off1 L) S25x1x8x128.size (k0_off1_inb L)).set := by
    show ((View.whole (main_v3_scv : Ref sig .scVector)).slice _).set = _
    rw [View.set_slice]; exact Finset.map_refl
  rw [e, Rect.mem_set_unit, k0_off1_eq]
  constructor
  · intro h
    have h1 : 2 * (L 1).val + (L 0).val ≤ (y 1).val ∧ (y 1).val < 2 * (L 1).val + (L 0).val + 1 := h 1
    omega
  · intro h a
    have y0 : (y 0).val < 25 := (y 0).isLt
    have y2 : (y 2).val < 8 := (y 2).isLt
    have y3 : (y 3).val < 128 := (y 3).isLt
    fin_cases a
    · show 0 ≤ (y 0).val ∧ (y 0).val < 0 + 25; omega
    · show 2 * (L 1).val + (L 0).val ≤ (y 1).val ∧ (y 1).val < 2 * (L 1).val + (L 0).val + 1; omega
    · show 0 ≤ (y 2).val ∧ (y 2).val < 0 + 8; omega
    · show 0 ≤ (y 3).val ∧ (y 3).val < 0 + 128; omega

/-- The input in slabs, dealt by columns. -/
theorem x_deal (X : Buf (Elt F) (xLoc d)) :
    (xLoc d ↦{fullShare} X : sProp 𝕄)
      = bigSep Finset.univ fun c : Fin 2 => bigSep Finset.univ fun i : Fin 16 => xLoc d ↦[columnSet (coordsV c i)]{fullShare} X :=
  pts_deal (ℓ := xLoc d) (fun c i => columnSet (coordsV c i)) (fun y : S25x32x8x128.Idx => (y 1).val) (fun c i y => mem_column (coordsV c i) y)
    (fun y : S25x32x8x128.Idx => (y 1).isLt) fullShare X

theorem column_pts (X : Buf (Elt F) (xLoc d)) :
    (xLoc d ↦[columnSet L]{fullShare} X : sProp 𝕄) = ((column L).view.loc (thr d L) ↦[(column L).view.set]{fullShare} X) := rfl

/-! ## The output's slabs -/

/-- The elements of slab `n` of a subcore's column of the output. -/
def slabSet (n : ℕ) : Finset S33x25x32x8x128.Idx := (slab L n).view.set

theorem mem_slab (n : ℕ) (y : S33x25x32x8x128.Idx) :
    y ∈ slabSet L n ↔ (y 1).val = n % 25 ∧ (y 2).val = 2 * (L 1).val + (L 0).val := by
  have e : slabSet L n = (Rect.unit (s := S33x25x32x8x128) (slabOff L n) S33x1x1x8x128.size (slab_inb L n)).set := by
    show ((View.whole (main_v4_scv : Ref sig .scVector)).slice _).set = _
    rw [View.set_slice]; exact Finset.map_refl
  rw [e, Rect.mem_set_unit]
  constructor
  · intro h
    have h1 : n % 25 ≤ (y 1).val ∧ (y 1).val < n % 25 + 1 := h 1
    have h2 : 2 * (L 1).val + (L 0).val ≤ (y 2).val ∧ (y 2).val < 2 * (L 1).val + (L 0).val + 1 := h 2
    omega
  · intro h a
    have y0 : (y 0).val < 33 := (y 0).isLt
    have y3 : (y 3).val < 8 := (y 3).isLt
    have y4 : (y 4).val < 128 := (y 4).isLt
    fin_cases a
    · show 0 ≤ (y 0).val ∧ (y 0).val < 0 + 33; omega
    · show n % 25 ≤ (y 1).val ∧ (y 1).val < n % 25 + 1; omega
    · show 2 * (L 1).val + (L 0).val ≤ (y 2).val ∧ (y 2).val < 2 * (L 1).val + (L 0).val + 1; omega
    · show 0 ≤ (y 3).val ∧ (y 3).val < 0 + 8; omega
    · show 0 ≤ (y 4).val ∧ (y 4).val < 0 + 128; omega

/-- A subcore's column of the output: its 25 slabs. -/
def strip : Finset S33x25x32x8x128.Idx := (Finset.range 25).biUnion (slabSet L)

theorem mem_strip (y : S33x25x32x8x128.Idx) : y ∈ strip L ↔ (y 2).val = 2 * (L 1).val + (L 0).val := by
  unfold strip
  constructor
  · intro h
    obtain ⟨n, -, h⟩ := Finset.mem_biUnion.mp h
    exact ((mem_slab L n y).mp h).2
  · intro h
    have y1 : (y 1).val < 25 := (y 1).isLt
    exact Finset.mem_biUnion.mpr ⟨(y 1).val, Finset.mem_range.mpr y1, (mem_slab L _ y).mpr ⟨(Nat.mod_eq_of_lt y1).symm, h⟩⟩

theorem strip_slabs (f : Buf (Elt F) (oLoc d)) :
    (oLoc d ↦[strip L]{fullShare} f : sProp 𝕄) = bigSep (Finset.range 25) fun n => oLoc d ↦[slabSet L n]{fullShare} f :=
  pointsTo_biUnion (ℓ := oLoc d) (Finset.range 25) (slabSet L) fun n hn k hk hne => Finset.disjoint_left.mpr fun y h1 h2 => hne (by
    have := ((mem_slab L n y).mp h1).1
    have := ((mem_slab L k y).mp h2).1
    have := Finset.mem_range.mp hn
    have := Finset.mem_range.mp hk
    omega)

/-- The output in slabs, dealt by columns. -/
theorem o_deal (f : Buf (Elt F) (oLoc d)) :
    (oLoc d ↦{fullShare} f : sProp 𝕄)
      = bigSep Finset.univ fun c : Fin 2 => bigSep Finset.univ fun i : Fin 16 => oLoc d ↦[strip (coordsV c i)]{fullShare} f :=
  pts_deal (ℓ := oLoc d) (fun c i => strip (coordsV c i)) (fun y : S33x25x32x8x128.Idx => (y 2).val) (fun c i y => mem_strip (coordsV c i) y)
    (fun y : S33x25x32x8x128.Idx => (y 2).isLt) fullShare f

theorem slab_owns (n : ℕ) (f : Buf (Elt F) (oLoc d)) : (oLoc d ↦[slabSet L n]{fullShare} f : sProp 𝕄) ⊢ Owns (thr d L) (slab L n) := by
  unfold Owns
  show ((slab L n).view.loc (thr d L) ↦[(slab L n).view.set]{fullShare} f : sProp 𝕄) ⊢ _
  iintro H
  iexists f
  iexact H

/-- A column's slabs, all still to be made. -/
theorem strip_rest (f : Buf (Elt F) (oLoc d)) : (oLoc d ↦[strip L]{fullShare} f : sProp 𝕄) ⊢ Rest d L 0 := by
  rw [strip_slabs]
  unfold Rest
  rw [show Finset.Ico 0 25 = Finset.range 25 from by decide]
  exact bigSep_mono fun n _ => slab_owns d L n f

/-! ## The output when it is made -/

/-- Where in the input in slabs the value of a place of the output lies. -/
def source (y : S33x25x32x8x128.Idx) : S25x32x8x128.Idx :=
  fun a => match a with | 0 => y 1 | 1 => y 2 | 2 => y 3 | 3 => y 4

/-- The output in slabs: one where the first coordinate is the bin of the value, zero elsewhere. -/
def OUT (b : S48.Idx → F .f32) (X : S25x32x8x128.Idx → F .f32) : S33x25x32x8x128.Idx → F .f32 :=
  fun y => if (bin b (X (source y))).toNat = (y 0).val then one else zero

theorem out_slab (b : S48.Idx → F .f32) (X : Buf (Elt F) (xLoc d)) (n : ℕ) :
    (slab L n).view.read (Elt F) (OUT b X) = hot (bins b ((column L).view.read (Elt F) X) n) 0 1024 := by
  funext j
  have hp := place_lt j
  have j1 : (j 1).val < 1 := (j 1).isLt
  have j2 : (j 2).val < 1 := (j 2).isLt
  have j4 : (j 4).val < 128 := (j 4).isLt
  show (if (bin b (X (source ((slab L n).view.emb j)))).toNat = (((slab L n).view.emb j) 0).val then one else zero) = _
  unfold hot
  have e0 : (((slab L n).view.emb j) 0).val = (j 0).val := by show 0 + 1 * (j 0).val = _; omega
  have es : X (source ((slab L n).view.emb j)) = (column L).view.read (Elt F) X (cell n (place j)) := by
    show X _ = X ((column L).view.emb (cell n (place j)))
    refine congrArg X (funext fun a => Fin.ext ?_)
    have off : ∀ a, (((column L).view.emb (cell n (place j))) a).val
        = (![0, 2 * (L 1).val + (L 0).val, 0, 0] : Fin 4 → ℕ) a + 1 * (cell n (place j) a).val := fun a => by
      rw [← k0_off1_eq]; rfl
    rw [off]
    fin_cases a
    · show n % 25 + 1 * (j 1).val = 0 + 1 * (n % 25); omega
    · show 2 * (L 1).val + (L 0).val + 1 * (j 2).val = 2 * (L 1).val + (L 0).val + 1 * (0 % 1); omega
    · show 0 + 1 * (j 3).val = 0 + 1 * ((place j / 128) % 8); unfold place at hp ⊢; omega
    · show 0 + 1 * (j 4).val = 0 + 1 * ((place j % 128) % 128); unfold place; omega
  rw [e0, es]
  unfold bins
  simp only [Nat.zero_le, hp, true_and]

theorem done_slab (b : S48.Idx → F .f32) (X : Buf (Elt F) (xLoc d)) (n : ℕ) :
    (Done d L b ((column L).view.read (Elt F) X) n : sProp 𝕄) ⊢ oLoc d ↦[slabSet L n]{fullShare} OUT b X := by
  unfold Done Holds
  iintro ⟨%f, %hf, H⟩
  rw [← out_slab d L b X n] at hf
  rw [show (oLoc d ↦[slabSet L n]{fullShare} OUT b X : sProp 𝕄) = ((slab L n).view.loc (thr d L) ↦[(slab L n).view.set]{fullShare} f) from
    pointsTo_congr (ℓ := oLoc d) fun y hy => by
      obtain ⟨x, -, rfl⟩ := Finset.mem_map.mp hy
      exact (congrFun hf x).symm]
  iexact H

/-- A column whose slabs are all made holds `OUT`. -/
theorem made_strip (b : S48.Idx → F .f32) (X : Buf (Elt F) (xLoc d)) :
    (Made d L b ((column L).view.read (Elt F) X) 25 : sProp 𝕄) ⊢ oLoc d ↦[strip L]{fullShare} OUT b X := by
  rw [strip_slabs]
  unfold Made
  exact bigSep_mono fun n _ => done_slab d L b X n

end Cert.Proof.OneHot
-- ==== Proof.Launch.lean ====
/-
  The launch of the kernel: what each vector subcore is given and gives back, and that its program does so. A subcore is
  given its column of the input, a share of the table and its slabs of the output; it gives its slabs back made.
-/
module

public import proofs.«01_k».proof.Defs
public import proofs.«01_k».proof.Proof.Arrays

@[expose] public section

noncomputable section

namespace Cert.Proof.OneHot

open Cert.KernelIdeal Cert.KernelIdeal.Gen
open Idealize.ShloMosaic
open Idealize.ShloMosaic.SparseCore (S V)
open Idealize.ShloMosaic.SparseCore.Cfg (HIx Pay ownBufs ownSems0 ownCells ownRefs mem_ownCells mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ (UU nD τ sig) ℕ

/-- The handshakes' rounds are the left factor of the user algebra. -/
abbrev EH : Emb (UH nD τ sig) (MT nD τ sig (HIx 1) (Elt F) ℕ (UU nD τ sig) ℕ) := embL

variable [FloatOps F]

/-! ## A subcore's own buffers and counters -/

section Own

variable (d : Dev nD) (L : grid0.Coords)

/-- The counters the task uses, and the buffers. -/
def taskSems : Finset (SemLoc sig) := {.dma cc0_scratch6.sem, .dma cc0_scratch7.sem, .dma cc0_scratch8.sem, .dma cc0_scoped0.sem}
def taskRefs : Finset (Ref sig .scVector) := {cc0_scratch0, cc0_scratch1, cc0_scratch2, cc0_scratch3, cc0_scratch4, cc0_scratch5}

/-- The counters of a subcore: the task's, and others. -/
theorem own_sems : ∃ R : sProp 𝕄, (ownSems0 (thr d L) : sProp 𝕄) = iprop(Counts d L ∗ R) := by
  have hsub : taskSems.map ⟨fun s => ((thr d L, s) : GSem nD τ sig), fun _ _ e => (Prod.mk.inj e).2⟩ ⊆ ownCells (thr d L) := by
    intro g hg
    obtain ⟨s, hs, rfl⟩ := Finset.mem_map.mp hg
    refine mem_ownCells.mpr ⟨rfl, ?_⟩
    exact (by decide : ∀ s ∈ taskSems, s.isScoped .scVector = true) s hs
  refine ⟨bigSep (ownCells (thr d L) \ taskSems.map ⟨fun s => ((thr d L, s) : GSem nD τ sig), fun _ _ e => (Prod.mk.inj e).2⟩) fun g => semVal g 0, ?_⟩
  unfold SparseCore.Cfg.ownSems0
  rw [BI.bigSep_sdiff_split hsub, bigSep_map, taskSems, SparseCore.bigSep_insert' (by decide), SparseCore.bigSep_insert' (by decide),
    SparseCore.bigSep_insert' (by decide), bigSep_singleton]
  rfl

theorem over_refs (Φ : Ref sig .scVector → sProp 𝕄) :
    bigSep taskRefs Φ = iprop(Φ cc0_scratch0 ∗ Φ cc0_scratch1 ∗ Φ cc0_scratch2 ∗ Φ cc0_scratch3 ∗ Φ cc0_scratch4 ∗ Φ cc0_scratch5) := by
  rw [taskRefs, SparseCore.bigSep_insert' (by decide), SparseCore.bigSep_insert' (by decide), SparseCore.bigSep_insert' (by decide),
    SparseCore.bigSep_insert' (by decide), SparseCore.bigSep_insert' (by decide), bigSep_singleton]

/-- The buffers of a subcore: the task's, and others. -/
theorem own_bufs : ∃ R : sProp 𝕄, (ownBufs (thr d L) : sProp 𝕄) = iprop(Buffers d L ∗ R) := by
  have hsub : taskRefs.map ⟨fun r => (thr d L).2.devRef r, Proc.devRef_injective _⟩ ⊆ ownRefs (sig := sig) (thr d L).2 := by
    intro b hb
    obtain ⟨r, hr, rfl⟩ := Finset.mem_map.mp hb
    refine mem_ownRefs_of_owner ?_
    simp only [taskRefs, Finset.mem_insert, Finset.mem_singleton] at hr
    rcases hr with rfl | rfl | rfl | rfl | rfl | rfl <;> rfl
  refine ⟨bigSep (ownRefs (thr d L).2 \ taskRefs.map ⟨fun r => (thr d L).2.devRef r, Proc.devRef_injective _⟩)
    fun b => iprop(∃ f, ((d, b) : Loc nD τ sig) ↦{fullShare} f), ?_⟩
  unfold SparseCore.Cfg.ownBufs
  rw [BI.bigSep_sdiff_split hsub, bigSep_map, over_refs]
  unfold Buffers Owns
  simp only [Memref.view_whole, View.set_whole]
  rfl

end Own

/-! ## What is given and given back -/

/-- The kernel's table: the boundaries, filled up to 48 entries. -/
def padded (a : S34.Idx → F .f32) : S48.Idx → F .f32 :=
  (fun a b => concatenate S48 0 [⟨S34, a⟩, ⟨S14, b⟩] concatenates_S34_S14_S48_d0 : (⟨S34, .f32⟩ : BufTy).Contents (Elt F) → (⟨S14, .f32⟩ : BufTy).Contents (Elt F) → (⟨S48, .f32⟩ : BufTy).Contents (Elt F))
    a (broadcastInDim S14 ![] bcast_S_S14 (constant (F := F) S_ .f32 0x7F800000#32))

/-- The input in slabs. -/
def sliced (x : S4096x200.Idx → F .f32) : S25x32x8x128.Idx → F .f32 :=
  ((transpose S25x32x8x128 [2, 0, 3, 1] · transposes_S32x128x25x8_S25x32x8x128_2_0_3_1) : (⟨S32x128x25x8, .f32⟩ : BufTy).Contents (Elt F) → (⟨S25x32x8x128, .f32⟩ : BufTy).Contents (Elt F))
    (shapeCast S32x128x25x8 x shapeCasts_S4096x200_S32x128x25x8)

/-- The output out of its slabs. -/
def unsliced (y : S33x25x32x8x128.Idx → F .f32) : S4096x200x33.Idx → F .f32 :=
  shapeCast S4096x200x33 (((transpose S32x128x25x8x33 [2, 4, 1, 3, 0] · transposes_S33x25x32x8x128_S32x128x25x8x33_2_4_1_3_0) : (⟨S33x25x32x8x128, .f32⟩ : BufTy).Contents (Elt F) → (⟨S32x128x25x8x33, .f32⟩ : BufTy).Contents (Elt F)) y)
    shapeCasts_S32x128x25x8x33_S4096x200x33

variable (m : (ℓ : Loc nD τ sig) → Buf (Elt F) ℓ) (ρ : Dev nD → PrngReg)

/-- The two operands of the call on device `d`. -/
def TAB (d : Dev nD) : Buf (Elt F) (bLoc d) := padded (m ((SparseCore.T d).loc main_arg1))
def XT (d : Dev nD) : Buf (Elt F) (xLoc d) := sliced (m ((SparseCore.T d).loc main_arg0))

/-- No value of the input lies outside the table's bins. -/
def PreOK : Prop := ∀ (d : Dev nD) (j : S25x32x8x128.Idx), Inside (F := F) (TAB m d) (XT m d j)

/-- Each subcore's share of the table. -/
abbrev tok (c : Fin 2) (i : Fin 16) : PosShare TreeShare := Transfers.shareTok (Transfers.shareTok fullShare 2 c) 16 i

def go (d : Dev nD) (c : Fin 2) (i : Fin 16) : sProp 𝕄 := Given d (coordsV c i) (tok c i) (XT m d) (TAB m d)
def td (d : Dev nD) (c : Fin 2) (i : Fin 16) : sProp 𝕄 := oLoc d ↦[strip (coordsV c i)]{fullShare} OUT (TAB m d) (XT m d)

instance go_storable (d : Dev nD) (c : Fin 2) (i : Fin 16) : BI.Storable (upEmb : UEmb _ 𝕄) (go m d c i) := by
  unfold go Given Rest Owns; infer_instance
instance td_storable (d : Dev nD) (c : Fin 2) (i : Fin 16) : BI.Storable (upEmb : UEmb _ 𝕄) (td m d c i) := by
  unfold td; infer_instance

def P : (K (F := F)).Pay (nD := nD) (Val := Elt F) (Name := ℕ) (U := UU nD τ sig) where
  st := fun q => match q with | 0 => fun d c => bigSep Finset.univ fun i : Fin 16 => go m d c i
  dn := fun q => match q with | 0 => fun d c => bigSep Finset.univ fun i : Fin 16 => td m d c i
  go := fun q => match q with | 0 => fun d c i => go m d c i
  td := fun q => match q with | 0 => fun d c i => td m d c i
  x := fun _ _ => iprop(emp)

instance P_storable : (P (F := F) m).IsStorable where
  st q d c := by match q with | 0 => unfold P; infer_instance
  dn q d c := by match q with | 0 => unfold P; infer_instance
  go q d c i := by match q with | 0 => unfold P; infer_instance
  td q d c i := by match q with | 0 => unfold P; infer_instance

/-! ## A subcore's program -/

theorem tile_body (d : Dev nD) (c : Fin 2) (i : Fin 16) (hpre : PreOK m) (O : CellTallies nD τ sig (HIx 1)) (W : Waits sig (HIx 1)) (hO : ∀ g, O g none = 0) :
    iprop(levAts (K (F := F)).L (K (F := F)).lev ∗ emp ∗ go m d c i
        ∗ scopedBufs (thr d (coordsV c i)) ∗ scopedSems0 (thr d (coordsV c i)) ∗ owes (thr d (coordsV c i)) O W)
      ⊢ run d (coordsV c i) (task (F := F) (coordsV c i)) fun _ =>
        iprop(td m d c i ∗ scopedBufs (thr d (coordsV c i)) ∗ scopedSems0 (thr d (coordsV c i))
          ∗ ∃ W', ⌜∀ p ∈ W', p ∈ W ∨ p.2 = none ∨ p.2 = some (0 : Fin 1)⌝ ∗ owes (thr d (coordsV c i)) O W') := by
  obtain ⟨Rb, hRb⟩ := own_bufs (F := F) d (coordsV c i)
  obtain ⟨Rs, hRs⟩ := own_sems (F := F) d (coordsV c i)
  rw [(K (F := F)).scopedBufs_V facts d, SparseCore.Cfg.scopedSems0_V (Val := Elt F) d, hRb, hRs]
  have main := task_run (F := F) d (coordsV c i) (tok c i) (XT m d) (TAB m d) (fun j => hpre d _) O W
  rw [show bV.view.read (Elt F) (TAB m d) = TAB m d from rfl] at main
  unfold go
  iintro ⟨#Hlv, -, Hgo, ⟨Hb, HRb⟩, ⟨Hs, HRs⟩, HO⟩
  ihave Hrun := main $$ [Hgo Hb Hs HO]
  · isplitr; · iapply ((K (F := F)).mayWaits_none (thr := thr d (coordsV c i)) hO); iexact Hlv
    isplitl [Hgo]; · iexact Hgo
    isplitl [Hb]; · iexact Hb
    isplitl [Hs]; · iexact Hs
    unfold Owing
    iexists W
    isplitr
    · ipureintro; exact fun p hp => .inl hp
    · iexact HO
  iapply wp_wand $$ Hrun
  iintro %_ ⟨Hm, Hb, Hs, HO⟩
  ihave Hm := (made_strip d (coordsV c i) (TAB m d) (XT m d)) $$ Hm
  isplitl [Hm]; · unfold td; iexact Hm
  isplitl [Hb HRb]; · isplitl [Hb] <;> iassumption
  isplitl [Hs HRs]; · isplitl [Hs] <;> iassumption
  unfold Owing
  icases HO with ⟨%W', %hW', HO⟩
  iexists W'
  isplitr
  · ipureintro; exact fun p hp => (hW' p hp).imp_right Or.inl
  · iexact HO

theorem defs₀_vector (c : Fin τ.nSC) (s : Fin τ.nSub) :
    defs₀ (F := F) (.scVector c s) 0 () = SparseCore.onTile hcore0 hsub0 (fun c s => task (F := F) (coordsV c s)) ⟨⟩ c s := rfl

theorem tileObl (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact tile_body m d c i hpre O W hO

theorem vecSplit : (K (F := F)).VecSplit' (P m) 0 := by
  intro d c
  show (bigSep (Finset.univ : Finset (Fin 16)) (go m d c)) ⊢ |={Set.univ}=> iprop(bigSep (Finset.univ : Finset (Fin 16)) (go m d c)
    ∗ (bigSep (Finset.univ : Finset (Fin 16)) (td m d c) -∗ bigSep (Finset.univ : Finset (Fin 16)) (td m d c)))
  iintro H
  imodintro
  isplitl [H]; · iexact H
  iintro H
  iexact H

/-! ## The launch element -/

def u₀ : UU nD τ sig := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.OneHot
-- ==== Proof.Main.lean ====
/-
  The kernel's program as a whole: the host lays the operands out in slabs, the call makes the output in slabs, and the
  host takes it out of them. Every execution ends, with the arguments unchanged, the result at `RES` and every counter at
  zero.
-/
module

public import proofs.«01_k».proof.Proof.Launch
public import Idealize.ShloMosaic.Lib.StableHlo.Run

@[expose] public section

noncomputable section

namespace Cert.Proof.OneHot

open Cert.KernelIdeal Cert.KernelIdeal.Gen
open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F]

local notation "𝕄" => MT nD τ sig (HIx 1) (Elt F) ℕ (UU nD τ sig) ℕ

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev rLoc (d : Dev nD) : Loc nD τ sig := (SparseCore.T d).loc main_v6

/-! ## Dealing the operands to the subcores, and gathering the output -/

theorem table_deal (d : Dev nD) (B : Buf (Elt F) (bLoc d)) :
    (bLoc d ↦{fullShare} B : sProp 𝕄) ⊢ bigSep Finset.univ fun c : Fin 2 => bigSep Finset.univ fun i : Fin 16 => bLoc d ↦{tok c i} B :=
  ((Transfers.pointsTo_toks_split fullShare 2).trans sep_elim_right).trans
    (bigSep_mono fun c _ => (Transfers.pointsTo_toks_split (Transfers.shareTok fullShare 2 c) 16).trans sep_elim_right)

theorem deal_one (d : Dev nD) (c : Fin 2) (i : Fin 16) (f : Buf (Elt F) (oLoc d)) :
    iprop((xLoc d ↦[columnSet (coordsV c i)]{fullShare} XT m d) ∗ (bLoc d ↦{tok c i} TAB m d) ∗ oLoc d ↦[strip (coordsV c i)]{fullShare} f)
      ⊢ (go m d c i : sProp 𝕄) := by
  unfold go Given
  rw [column_pts d (coordsV c i)]
  iintro ⟨Hx, Hb, Ho⟩
  isplitl [Hx]; · iexact Hx
  isplitl [Hb]
  · simp only [Memref.view_whole, View.set_whole]
    iexact Hb
  · iapply (strip_rest d (coordsV c i) f); iexact Ho

/-- The call's operands and its output, dealt to the subcores. -/
theorem deal (d : Dev nD) (f : Buf (Elt F) (oLoc d)) :
    iprop((xLoc d ↦{fullShare} XT m d) ∗ (bLoc d ↦{fullShare} TAB m d) ∗ oLoc d ↦{fullShare} f)
      ⊢ (bigSep Finset.univ fun c : Fin 2 => bigSep Finset.univ fun i : Fin 16 => go m d c i : sProp 𝕄) := by
  have step : iprop((xLoc d ↦{fullShare} XT m d) ∗ (bLoc d ↦{fullShare} TAB m d) ∗ oLoc d ↦{fullShare} f)
      ⊢ (bigSep Finset.univ fun c : Fin 2 => bigSep Finset.univ fun i : Fin 16 => iprop((xLoc d ↦[columnSet (coordsV c i)]{fullShare} XT m d)
        ∗ (bLoc d ↦{tok c i} TAB m d) ∗ oLoc d ↦[strip (coordsV c i)]{fullShare} f) : sProp 𝕄) := by
    simp only [bigSep_sep']
    rw [x_deal, o_deal]
    iintro ⟨Hx, Hb, Ho⟩
    ihave Hb := (table_deal d (TAB m d)) $$ Hb
    isplitl [Hx]; · iexact Hx
    isplitl [Hb] <;> iassumption
  exact step.trans (bigSep_mono fun c _ => bigSep_mono fun i _ => deal_one m d c i f)

/-! ## The host's operations -/

abbrev a0' : DevRef τ sig := Proc.devRef .tc (main_arg0 : Ref sig .tc)
abbrev a1' : DevRef τ sig := Proc.devRef .tc (main_arg1 : Ref sig .tc)
abbrev cst' : DevRef τ sig := Proc.devRef .tc (main_cst : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)

abbrev op0 : HloOp τ sig (Elt F) := StableHlo.nullary main_cst (constant S_ .f32 0x7F800000#32)
abbrev op1 : HloOp τ sig (Elt F) := StableHlo.unary main_cst main_v0 (broadcastInDim S14 ![] bcast_S_S14 : (⟨S_, .f32⟩ : BufTy).Contents (Elt F) → (⟨S14, .f32⟩ : BufTy).Contents (Elt F))
abbrev op2 : HloOp τ sig (Elt F) := StableHlo.binary main_arg1 main_v0 main_v1 ((fun a b => concatenate S48 0 [⟨S34, a⟩, ⟨S14, b⟩] concatenates_S34_S14_S48_d0) : (⟨S34, .f32⟩ : BufTy).Contents (Elt F) → (⟨S14, .f32⟩ : BufTy).Contents (Elt F) → (⟨S48, .f32⟩ : BufTy).Contents (Elt F))
abbrev op3 : HloOp τ sig (Elt F) := StableHlo.reshape main_arg0 main_v2 (rfl : (.f32 : EltTy) = .f32) shapeCasts_S4096x200_S32x128x25x8
abbrev op4 : HloOp τ sig (Elt F) := StableHlo.unary main_v2 main_v3 ((transpose S25x32x8x128 [2, 0, 3, 1] · transposes_S32x128x25x8_S25x32x8x128_2_0_3_1) : (⟨S32x128x25x8, .f32⟩ : BufTy).Contents (Elt F) → (⟨S25x32x8x128, .f32⟩ : BufTy).Contents (Elt F))
abbrev op5 : HloOp τ sig (Elt F) := StableHlo.unary main_v4 main_v5 ((transpose S32x128x25x8x33 [2, 4, 1, 3, 0] · transposes_S33x25x32x8x128_S32x128x25x8x33_2_4_1_3_0) : (⟨S33x25x32x8x128, .f32⟩ : BufTy).Contents (Elt F) → (⟨S32x128x25x8x33, .f32⟩ : BufTy).Contents (Elt F))
abbrev op6 : HloOp τ sig (Elt F) := StableHlo.reshape main_v5 main_v6 (rfl : (.f32 : EltTy) = .f32) shapeCasts_S32x128x25x8x33_S4096x200x33

/-- The TensorCore's arrays. -/
abbrev SA : Finset (DevRef τ sig) := {a0', a1', cst', v0', v1', v2', v3', v4', v5', v6'}
/-- Those the last two operations touch. -/
abbrev SB : Finset (DevRef τ sig) := {v4', v5', v6'}

abbrev at' (d : Dev nD) (b : DevRef τ sig) (W : Valuation τ sig (Elt F)) : sProp 𝕄 := ((d, b) : Loc nD τ sig) ↦{fullShare} W b

theorem held_SA (d : Dev nD) (W : Valuation τ sig (Elt F)) :
    (held (SparseCore.T d) SA W : sProp 𝕄) = iprop(at' d a0' W ∗ at' d a1' W ∗ at' d cst' W ∗ at' d v0' W ∗ at' d v1' W ∗ at' d v2' W ∗ at' d v3' W
      ∗ at' d v4' W ∗ at' d v5' W ∗ at' d v6' W) := by
  unfold held SA
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem held_SB (d : Dev nD) (W : Valuation τ sig (Elt F)) :
    (held (SparseCore.T d) SB W : sProp 𝕄) = iprop(at' d v4' W ∗ at' d v5' W ∗ at' d v6' W) := by
  unfold held SB
  rw [SparseCore.bigSep_insert' (by decide), SparseCore.bigSep_insert' (by decide), bigSep_singleton]

/-- The arrays at the launch, -/
def V0 (d : Dev nD) : Valuation τ sig (Elt F) := fun b => m (d, b)

theorem unscoped_held (d : Dev nD) : (unscopedBufs d (fun b => m ((SparseCore.T d).loc b)) : sProp 𝕄) = held (SparseCore.T d) SA (V0 m d) := by
  rw [held_SA]
  unfold unscopedBufs
  rw [show (Finset.univ.filter fun b : Ref sig .tc => ¬ b.isScoped)
      = {main_arg0, main_arg1, main_cst, main_v0, main_v1, main_v2, main_v3, main_v4, main_v5, main_v6} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-- before the call, -/
def V1 (d : Dev nD) : Valuation τ sig (Elt F) :=
  (op4 (F := F)).result ((op3 (F := F)).result ((op2 (F := F)).result ((op1 (F := F)).result ((op0 (F := F)).result (V0 m d)))))

/-- after it, -/
def V2 (d : Dev nD) : Valuation τ sig (Elt F) := Function.update (V1 m d) v4' (OUT (TAB m d) (XT m d) : Buf (Elt F) (oLoc d))

/-- and the program's result. -/
def RES (d : Dev nD) : Buf (Elt F) (rLoc d) := unsliced (OUT (TAB m d) (XT m d))

theorem V1_a0 (d : Dev nD) : V1 m d a0' = m (a0Loc d) := by
  unfold V1
  rw [StableHlo.unary_result_ne, StableHlo.reshape_result_ne, StableHlo.binary_result_ne, StableHlo.unary_result_ne, StableHlo.nullary_result_ne]
  · rfl
  all_goals decide

theorem V1_a1 (d : Dev nD) : V1 m d a1' = m (a1Loc d) := by
  unfold V1
  rw [StableHlo.unary_result_ne, StableHlo.reshape_result_ne, StableHlo.binary_result_ne, StableHlo.unary_result_ne, StableHlo.nullary_result_ne]
  · rfl
  all_goals decide

theorem V1_v1 (d : Dev nD) : V1 m d v1' = TAB m d := by
  unfold V1
  rw [StableHlo.unary_result_ne, StableHlo.reshape_result_ne, StableHlo.binary_result', StableHlo.unary_result', StableHlo.nullary_result',
    StableHlo.unary_result_ne, StableHlo.nullary_result_ne]
  · rfl
  all_goals decide

theorem V1_v3 (d : Dev nD) : V1 m d v3' = XT m d := by
  unfold V1
  rw [StableHlo.unary_result', StableHlo.reshape_result', StableHlo.binary_result_ne, StableHlo.unary_result_ne, StableHlo.nullary_result_ne]
  · rfl
  all_goals decide

theorem V2_v5 (d : Dev nD) : V2 m d v5' = V1 m d v5' := Function.update_of_ne (show v5' ≠ v4' by decide) _ _
theorem V2_v6 (d : Dev nD) : V2 m d v6' = V1 m d v6' := Function.update_of_ne (show v6' ≠ v4' by decide) _ _
theorem V2_v4 (d : Dev nD) : V2 m d v4' = OUT (TAB m d) (XT m d) := Function.update_self _ _ _

/-- What the call is made with. -/
theorem held_before (d : Dev nD) :
    (held (SparseCore.T d) SA ((op4 (F := F)).result ((op3 (F := F)).result ((op2 (F := F)).result ((op1 (F := F)).result ((op0 (F := F)).result (V0 m d)))))) : sProp 𝕄)
      ⊢ iprop((a0Loc d ↦{fullShare} m (a0Loc d)) ∗ (a1Loc d ↦{fullShare} m (a1Loc d)) ∗ (bLoc d ↦{fullShare} TAB m d) ∗ (xLoc d ↦{fullShare} XT m d)
        ∗ at' d v4' (V1 m d) ∗ at' d v5' (V1 m d) ∗ at' d v6' (V1 m d)) := by
  show (held (SparseCore.T d) SA (V1 m d) : sProp 𝕄) ⊢ _
  rw [held_SA, ← V1_v1 m d, ← V1_v3 m d, ← V1_a0 m d, ← V1_a1 m d]
  iintro ⟨Ha0, Ha1, -, -, Hv1, -, Hv3, Hv4, Hv5, Hv6⟩
  isplitl [Ha0]; · iexact Ha0
  isplitl [Ha1]; · iexact Ha1
  isplitl [Hv1]; · iexact Hv1
  isplitl [Hv3]; · iexact Hv3
  isplitl [Hv4]; · iexact Hv4
  isplitl [Hv5] <;> iassumption

/-- What the last operations are done with. -/
theorem held_after (d : Dev nD) :
    iprop((oLoc d ↦{fullShare} OUT (TAB m d) (XT m d)) ∗ at' d v5' (V1 m d) ∗ at' d v6' (V1 m d)) ⊢ (held (SparseCore.T d) SB (V2 m d) : sProp 𝕄) := by
  unfold at'
  rw [held_SB, ← V2_v5, ← V2_v6, ← V2_v4]

theorem last_v6 (d : Dev nD) : (op6 (F := F)).result ((op5 (F := F)).result (V2 m d)) v6' = RES m d := by
  rw [StableHlo.reshape_result', StableHlo.unary_result', V2_v4]
  rfl

theorem bufs0 : (op0 (F := F)).bufs ⊆ SA := show ({cst'} : Finset (DevRef τ sig)) ⊆ SA by decide
theorem bufs1 : (op1 (F := F)).bufs ⊆ SA := show ({cst', v0'} : Finset (DevRef τ sig)) ⊆ SA by decide
theorem bufs2 : (op2 (F := F)).bufs ⊆ SA := show ({a1', v0', v1'} : Finset (DevRef τ sig)) ⊆ SA by decide
theorem bufs3 : (op3 (F := F)).bufs ⊆ SA := show ({a0', v2'} : Finset (DevRef τ sig)) ⊆ SA by decide
theorem bufs4 : (op4 (F := F)).bufs ⊆ SA := show ({v2', v3'} : Finset (DevRef τ sig)) ⊆ SA by decide
theorem bufs5 : (op5 (F := F)).bufs ⊆ SB := show ({v4', v5'} : Finset (DevRef τ sig)) ⊆ SB by decide
theorem bufs6 : (op6 (F := F)).bufs ⊆ SB := show ({v5', v6'} : Finset (DevRef τ sig)) ⊆ SB by decide

/-! ## @main on the TensorCore -/

theorem st0_eq (d : Dev nD) : (bigSep Finset.univ fun c : Fin ((K (F := F)).nCore 0) => (P m).st 0 d c)
    = bigSep Finset.univ fun c : Fin 2 => bigSep Finset.univ fun i : Fin 16 => go m d c i := rfl
theorem dn0_eq (d : Dev nD) : (bigSep Finset.univ fun c : Fin ((K (F := F)).nCore 0) => (P m).dn 0 d c)
    = (oLoc d ↦{fullShare} OUT (TAB m d) (XT m d) : sProp 𝕄) := by
  rw [o_deal]; rfl

/-- What @main leaves the claim: the arguments as they were, and the result. -/
abbrev FIN (d : Dev nD) : sProp 𝕄 :=
  iprop((a0Loc d ↦{fullShare} m (a0Loc d))
    ∗ (a1Loc d ↦{fullShare} m (a1Loc d)) ∗ rLoc d ↦{fullShare} RES m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op0) (S := SA) bufs0 (V := V0 m d)) $$ [Hb Hheld]
  · isplitl [Hb] <;> iassumption
  iintro ⟨Hb, Hheld⟩
  rw [wp_ret]; imodintro
  iapply (wp_hlo_within 𝒱 (SparseCore.T d) none Set.univ (op := op1) (S := SA) bufs1) $$ [Hb Hheld]
  · isplitl [Hb] <;> iassumption
  iintro ⟨Hb, Hheld⟩
  rw [wp_ret]; imodintro
  iapply (wp_hlo_within 𝒱 (SparseCore.T d) none Set.univ (op := op2) (S := SA) bufs2) $$ [Hb Hheld]
  · isplitl [Hb] <;> iassumption
  iintro ⟨Hb, Hheld⟩
  rw [wp_ret]; imodintro
  iapply (wp_hlo_within 𝒱 (SparseCore.T d) none Set.univ (op := op3) (S := SA) bufs3) $$ [Hb Hheld]
  · isplitl [Hb] <;> iassumption
  iintro ⟨Hb, Hheld⟩
  rw [wp_ret]; imodintro
  iapply (wp_hlo_within 𝒱 (SparseCore.T d) none Set.univ (op := op4) (S := SA) bufs4) $$ [Hb Hheld]
  · isplitl [Hb] <;> iassumption
  iintro ⟨Hb, Hheld⟩
  rw [wp_ret]; imodintro
  ihave Hh := (held_before m d) $$ Hheld
  icases Hh with ⟨Ha0, Ha1, Hv1, Hv3, Hv4, Hv5, Hv6⟩
  iapply ((K (F := F)).wp_run (D (F := F)) 𝒱 (EH := EH) (P := P m) κ d 0) $$ [Hst Ha0 Ha1 Hv1 Hv3 Hv4 Hv5 Hv6 Hb Hts]
  isplitr; · iexact Hctx
  isplitl [Hst]; · iexact Hst
  isplitl [Hv1 Hv3 Hv4]
  · rw [st0_eq]
    iapply (deal m d _)
    isplitl [Hv3]; · iexact Hv3
    isplitl [Hv1] <;> iassumption
  iintro ⟨Hst, Hdn⟩
  ihave Hv4 := (Entails.of_eq (dn0_eq m d)) $$ Hdn
  iapply (wp_hlo_within 𝒱 (SparseCore.T d) none Set.univ (op := op5) (S := SB) bufs5 (V := V2 m d)) $$ [Hb Hv4 Hv5 Hv6]
  · isplitl [Hb]; · iexact Hb
    iapply (held_after m d)
    isplitl [Hv4]; · iexact Hv4
    isplitl [Hv5]; · iexact Hv5
    iexact Hv6
  iintro ⟨Hb, Hheld⟩
  rw [wp_ret]; imodintro
  iapply (wp_hlo_within 𝒱 (SparseCore.T d) none Set.univ (op := op6) (S := SB) bufs6) $$ [Hb Hheld]
  · isplitl [Hb] <;> iassumption
  iintro ⟨Hb, Hheld⟩
  ihave Hh := (Entails.of_eq (held_SB (F := F) d _)) $$ Hheld
  icases Hh with ⟨-, -, Hv6⟩
  rw [wp_ret]; imodintro; imodintro
  isplitl [Hst]; · iexact Hst
  isplitr [Hb Hts]
  · isplitl [Ha0]; · iexact Ha0
    isplitl [Ha1]; · iexact Ha1
    rw [← last_v6]
    iexact Hv6
  isplitl [Hb] <;> iassumption

/-! ## The run -/

def fq (d : Dev nD) (s' : Phys nD τ sig (Elt F)) : Prop :=
  s'.mem.mem (a0Loc d) = m (a0Loc d)
    ∧ s'.mem.mem (a1Loc d) = m (a1Loc d)
    ∧ s'.mem.mem (rLoc d) = RES m d

theorem hfin (d : Dev nD) (s' : Phys nD τ sig (Elt F)) : iprop(FIN m d ∗ SI s') ⊢ (⌜fq m d s'⌝ : sProp 𝕄) := by
  have agree : ∀ (ℓ : Loc nD τ sig) (f : Buf (Elt F) ℓ), iprop((ℓ ↦{fullShare} f) ∗ SI s') ⊢ (iprop(SI s' ∗ ⌜s'.mem.mem ℓ = f⌝) : sProp 𝕄) := fun ℓ f => by
    refine (persistent_entails_right (Q := iprop(⌜s'.mem.mem ℓ = f⌝)) ?_).trans ?_
    · iintro ⟨H, HSI⟩
      ihave H := (SI_pointsTo_agree (st := s') (ℓ := ℓ) (I := Finset.univ) (q := fullShare) (f := f)) $$ [HSI H]
      · isplitl [HSI] <;> iassumption
      icases H with %hx
      ipureintro; exact funext fun i => hx i (Finset.mem_univ i)
    · iintro ⟨H, -, HSI⟩
      isplitl [HSI] <;> iassumption
  iintro ⟨⟨H0, H1, H6⟩, HSI⟩
  ihave HSI := (agree _ _) $$ [H0 HSI]
  · isplitl [H0] <;> iassumption
  icases HSI with ⟨HSI, %h0⟩
  ihave HSI := (agree _ _) $$ [H1 HSI]
  · isplitl [H1] <;> iassumption
  icases HSI with ⟨HSI, %h1⟩
  ihave HSI := (agree _ _) $$ [H6 HSI]
  · isplitl [H6] <;> iassumption
  icases HSI with ⟨-, %h6⟩
  ipureintro; exact ⟨h0, h1, h6⟩

/-- What a run ends in. -/
def QC : PUnit × MemSt nD τ sig (Elt F) → Prop := fun r =>
  (∀ c : Dev nD, r.2.mem (a0Loc c) = m (a0Loc c)
    ∧ r.2.mem (a1Loc c) = m (a1Loc c)
    ∧ r.2.mem (rLoc c) = RES m c) ∧ r.2.sem = fun _ => 0

/-- Every execution ends in `QC`, if no value of the input lies outside the table's bins. -/
theorem run_main [∀ e, Nonempty (Elt F e)] (hpre : PreOK m) : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.OneHot
-- ==== Proof.Layout.lean ====
/-
  The host's layout steps read at an index: the table's entries are the breaks, a slab's value is a value of the input,
  and an element of the result is an element of the slabs.
-/
module

public import proofs.«01_k».proof.Proof.Launch
public import Idealize.ShloMosaic.Lib.Pipeline.Value

@[expose] public section

noncomputable section

namespace Cert.Proof.OneHot

open Cert.KernelIdeal Cert.KernelIdeal.Gen
open Idealize.ShloMosaic

variable {F : FTy → Type} [FloatOps F]

/-- Break `k` among the 34. -/
def brk (k : ℕ) : S34.Idx := fun a => ⟨k % S34.size a, Nat.mod_lt _ (by revert a; decide)⟩

/-- Where in the input the slabs' element `j` comes from. -/
def home (j : S25x32x8x128.Idx) : S4096x200.Idx := fun a => match a with
  | 0 => ⟨128 * (j 1).val + (j 3).val, by
      have := (j 1).isLt; have := (j 3).isLt
      change _ < 32 at *; change _ < 128 at *; show _ < 4096; omega⟩
  | 1 => ⟨8 * (j 0).val + (j 2).val, by
      have := (j 0).isLt; have := (j 2).isLt
      change _ < 25 at *; change _ < 8 at *; show _ < 200; omega⟩

/-- Where in the output's slabs the result's element `i` comes from. -/
def slabOf (i : S4096x200x33.Idx) : S33x25x32x8x128.Idx := fun a => match a with
  | 0 => i 2
  | 1 => ⟨(i 1).val / 8, by have := (i 1).isLt; change _ < 200 at this; show _ < 25; omega⟩
  | 2 => ⟨(i 0).val / 128, by have := (i 0).isLt; change _ < 4096 at this; show _ < 32; omega⟩
  | 3 => ⟨(i 1).val % 8, Nat.mod_lt _ (by decide)⟩
  | 4 => ⟨(i 0).val % 128, Nat.mod_lt _ (by decide)⟩

/-- The row and feature of a result's element. -/
def cellOf (i : S4096x200x33.Idx) : S4096x200.Idx := fun a => match a with
  | 0 => i 0
  | 1 => i 1

/-- The table's first 34 entries are the breaks. -/
theorem padded_entry (a : S34.Idx → F .f32) (k : ℕ) (hk : k < 34) : padded a (entry k) = a (brk k) := by
  unfold padded
  refine concatenate_pair_apply_left (t := S48) (s₁ := S34) (s₂ := S14) 0 a _ concatenates_S34_S14_S48_d0 (entry k) rfl (brk k) fun b => ?_
  obtain rfl : b = 0 := Subsingleton.elim _ _
  show k % 34 = k % 48
  omega

/-- A slab's value is the input's value at its home. -/
theorem sliced_apply (x : S4096x200.Idx → F .f32) (j : S25x32x8x128.Idx) : sliced x j = x (home j) := by
  unfold sliced
  have j0 := (j 0).isLt; have j1 := (j 1).isLt; have j2 := (j 2).isLt; have j3 := (j 3).isLt
  let k : S32x128x25x8.Idx := fun a => match a with
    | 0 => j 1 | 1 => j 3 | 2 => j 0 | 3 => j 2
  refine (transpose_apply _ _ _ _ k fun b => ?_).trans (shapeCast_apply _ _ _ _ ?_)
  · match b with
    | 0 => rfl
    | 1 => rfl
    | 2 => rfl
    | 3 => rfl
  · rw [Shape.rowMajor_val_two, Shape.rowMajor_val_four]
    show (128 * (j 1).val + (j 3).val) * 200 + (8 * (j 0).val + (j 2).val)
      = (((j 1).val * 128 + (j 3).val) * 25 + (j 0).val) * 8 + (j 2).val
    omega

/-- The result's element is the slabs' element. -/
theorem unsliced_apply (y : S33x25x32x8x128.Idx → F .f32) (i : S4096x200x33.Idx) : unsliced y i = y (slabOf i) := by
  unfold unsliced
  have i0 := (i 0).isLt; have i1 := (i 1).isLt; have i2 := (i 2).isLt
  let k : S32x128x25x8x33.Idx := fun a => match a with
    | 0 => slabOf i 2 | 1 => slabOf i 4 | 2 => slabOf i 1 | 3 => slabOf i 3 | 4 => slabOf i 0
  refine (shapeCast_apply _ _ _ k ?_).trans (transpose_apply _ _ _ _ _ fun b => ?_)
  · rw [Shape.rowMajor_val_three, Shape.rowMajor_val_five]
    show (((((i 0).val / 128) * 128 + (i 0).val % 128) * 25 + (i 1).val / 8) * 8 + (i 1).val % 8) * 33 + (i 2).val
      = ((i 0).val * 200 + (i 1).val) * 33 + (i 2).val
    omega
  · match b with
    | 0 => rfl
    | 1 => rfl
    | 2 => rfl
    | 3 => rfl
    | 4 => rfl

/-- The home of the value an element of the output's slabs is made from. -/
theorem home_slabOf (i : S4096x200x33.Idx) : home (source (slabOf i)) = cellOf i := by
  funext a
  match a with
  | 0 =>
    refine Fin.ext ?_
    show 128 * ((i 0).val / 128) + (i 0).val % 128 = (i 0).val
    omega
  | 1 =>
    refine Fin.ext ?_
    show 8 * ((i 1).val / 8) + (i 1).val % 8 = (i 1).val
    omega

/-- The kernel's result at `i`: one where `i`'s last coordinate is the bin of the value, zero elsewhere. -/
theorem result_apply (b : S48.Idx → F .f32) (x : S4096x200.Idx → F .f32) (i : S4096x200x33.Idx) :
    unsliced (OUT b (sliced x)) i = if (bin b (x (cellOf i))).toNat = (i 2).val then one else zero := by
  rw [unsliced_apply]
  unfold OUT
  rw [sliced_apply, home_slabOf]
  rfl

end Cert.Proof.OneHot

end
-- ==== Proof.Given.lean ====
/-
  The precondition read back, element by element, for any float values: each comparison it rules out, as a bit that is
  not one. From it, no value of the input lies outside the kernel's table.
-/
module

public import proofs.«01_k».proof.Proof.Layout
public import proofs.«01_k».proof.Pre_breaks_fit
public import Idealize.ShloMosaic.Lib.ReduceAll

@[expose] public section

noncomputable section

namespace Cert.Proof.OneHot

open Idealize.ShloMosaic

/-- The shape relations the precondition's operations take. -/
instance pre_facts : Cert.Pre_breaks_fit.Facts where
  slices_S34_S1_0 := by decide
  shapeCasts_S1_S_ := by decide
  bcast_S_S4096x200 := by decide
  slices_S34_S1_33 := by decide
  slices_S34_S33_0 := by decide
  slices_S34_S33_1 := by decide
  slices_S34_S31_2 := by decide
  bcast_S_S31 := by decide
  slices_S34_S31_1 := by decide
  reducesTo_S33_S_d0 := by decide
  h_S_ := by decide
  reducesTo_S31_S_d0 := by decide

variable {F : FTy → Type} [FloatOps F]

/-- What the precondition says of the input `x` and the breaks `a`. -/
structure Decoded (x : Cert.KernelIdeal.S4096x200.Idx → F .f32) (a : Cert.KernelIdeal.S34.Idx → F .f32) : Prop where
  first : ∀ i, FloatOps.cmpf .ogt (a (brk 0)) (x i) ≠ 1#1
  last : ∀ i, FloatOps.cmpf .ole (a (brk 33)) (x i) ≠ 1#1
  bound : ∀ i, FloatOps.cmpf .ogt (x i) (Scalar.ofBits .f32 0x4C842108#32) ≠ 1#1
  mono : ∀ k, k < 33 → FloatOps.cmpf .ogt (a (brk k)) (a (brk (k + 1))) ≠ 1#1
  low : ∀ k, k < 31 → FloatOps.cmpf .olt (FloatOps.mulf (a (brk (k + 2))) (Scalar.ofBits .f32 0x41F80000#32))
    (FloatOps.sitofp .f32 (BitVec.ofNat 32 k)) ≠ 1#1
  high : ∀ k, k < 31 → FloatOps.cmpf .ogt (FloatOps.mulf (a (brk (k + 1))) (Scalar.ofBits .f32 0x41F80000#32))
    (FloatOps.addf (FloatOps.sitofp .f32 (BitVec.ofNat 32 k)) (Scalar.ofBits .f32 0x3F800000#32)) ≠ 1#1

instance : Subsingleton Cert.Pre_breaks_fit.S_.Idx := ⟨fun f g => funext fun k => k.elim0⟩

/-- A slice of the breaks read at `k` is the break that many places on from the slice's start. -/
theorem slice_brk {t : Shape} (n : ℕ) (a : Cert.KernelIdeal.S34.Idx → F .f32) (h : Cert.KernelIdeal.S34.Slices ![n] t) (j : t.Idx)
    (k : ℕ) (hk : k < 34) (e : k = n + (j ((0 : Fin 1).cast h.1.symm)).val) :
    extractStridedSlice t ![n] a h j = a (brk k) := by
  refine extractStridedSlice_apply _ _ _ _ _ fun b => ?_
  obtain rfl : b = 0 := Subsingleton.elim _ _
  show k % 34 = n + _
  omega

/-- One break, spread over the input's shape. -/
theorem splat_brk (n : ℕ) (a : Cert.KernelIdeal.S34.Idx → F .f32) (hs : Cert.KernelIdeal.S34.Slices ![n] Cert.Pre_breaks_fit.S1)
    (hc : Cert.Pre_breaks_fit.S1.ShapeCasts Cert.Pre_breaks_fit.S_)
    (hb : Cert.Pre_breaks_fit.S_.BroadcastsInDim Cert.KernelIdeal.S4096x200 (![] : Fin 0 → Fin Cert.KernelIdeal.S4096x200.rank))
    (i : Cert.KernelIdeal.S4096x200.Idx) (hn : n < 34) :
    broadcastInDim Cert.KernelIdeal.S4096x200 ![] hb (shapeCast Cert.Pre_breaks_fit.S_ (extractStridedSlice Cert.Pre_breaks_fit.S1 ![n] a hs) hc) i = a (brk n) := by
  refine slice_brk n a hs _ n hn ?_
  have one : ∀ v : Fin 1, v.val = 0 := fun v => by omega
  exact (congrArg (n + ·) (one _)).symm

/-- An index of a vector. -/
abbrev ofNat {n : ℕ} (k : ℕ) (h : k < n) : (⟨1, ![n]⟩ : Shape).Idx := fun a => match a with | 0 => ⟨k, h⟩

/-- The precondition, read back. -/
theorem decoded (x : Cert.KernelIdeal.S4096x200.Idx → F .f32) (a : Cert.KernelIdeal.S34.Idx → F .f32)
    (h : Cert.Pre_breaks_fit.fn (F := F) x a = fun _ => 1#1) : Decoded x a := by
  have parts := fun i => by
    have hi := congrFun h i
    unfold Cert.Pre_breaks_fit.fn Cert.Pre_breaks_fit.fn_part1 at hi
    obtain ⟨h123, h4⟩ := IntOp.andi_eq_one.1 hi
    obtain ⟨h12, h3⟩ := IntOp.andi_eq_one.1 h123
    obtain ⟨h1, h2⟩ := IntOp.andi_eq_one.1 h12
    exact And.intro (IntOp.not_eq_one.1 h1) (And.intro (fun k => IntOp.not_eq_one.1 (Host.reduce_andi_all _ _ _ _ _ h2 k))
      (And.intro (fun k => IntOp.not_eq_one.1 (Host.reduce_andi_all _ _ _ _ _ h3 k)) (fun k => IntOp.not_eq_one.1 (Host.reduce_andi_all _ _ _ _ _ h4 k))))
  have origin := parts fun a => ⟨0, by revert a; decide⟩
  constructor
  · intro i e
    refine (parts i).1 (IntOp.ori_eq_one.2 (.inl (IntOp.ori_eq_one.2 (.inl ?_))))
    rw [← splat_brk 0 a Cert.Pre_breaks_fit.Facts.slices_S34_S1_0 Cert.Pre_breaks_fit.Facts.shapeCasts_S1_S_ Cert.Pre_breaks_fit.Facts.bcast_S_S4096x200 i (by decide)] at e
    exact e
  · intro i e
    refine (parts i).1 (IntOp.ori_eq_one.2 (.inl (IntOp.ori_eq_one.2 (.inr ?_))))
    rw [← splat_brk 33 a Cert.Pre_breaks_fit.Facts.slices_S34_S1_33 Cert.Pre_breaks_fit.Facts.shapeCasts_S1_S_ Cert.Pre_breaks_fit.Facts.bcast_S_S4096x200 i (by decide)] at e
    exact e
  · exact fun i e => (parts i).1 (IntOp.ori_eq_one.2 (.inr e))
  · intro k hk e
    refine origin.2.1 (ofNat k hk) ?_
    rw [← slice_brk 0 a Cert.Pre_breaks_fit.Facts.slices_S34_S33_0 (ofNat k hk) k (by omega) (Nat.zero_add k).symm,
      ← slice_brk 1 a Cert.Pre_breaks_fit.Facts.slices_S34_S33_1 (ofNat k hk) (k + 1) (by omega) (Nat.add_comm k 1)] at e
    exact e
  · intro k hk e
    refine origin.2.2.1 (ofNat k hk) ?_
    rw [← slice_brk 2 a Cert.Pre_breaks_fit.Facts.slices_S34_S31_2 (ofNat k hk) (k + 2) (by omega) (Nat.add_comm k 2)] at e
    exact e
  · intro k hk e
    refine origin.2.2.2 (ofNat k hk) ?_
    rw [← slice_brk 1 a Cert.Pre_breaks_fit.Facts.slices_S34_S31_1 (ofNat k hk) (k + 1) (by omega) (Nat.add_comm k 1)] at e
    exact e

/-- Under the precondition no value of the input lies outside the table. -/
theorem Decoded.inside {x : Cert.KernelIdeal.S4096x200.Idx → F .f32} {a : Cert.KernelIdeal.S34.Idx → F .f32} (h : Decoded x a)
    (i : Cert.KernelIdeal.S4096x200.Idx) : Inside (padded a) (x i) := by
  unfold Inside
  rw [padded_entry a 33 (by decide), padded_entry a 0 (by decide)]
  exact ⟨h.last i, h.first i⟩

/-- Under the precondition the launch's input is one the kernel's run is stated of. -/
theorem pre_ok (m : (ℓ : Loc Cert.KernelIdeal.nD Cert.KernelIdeal.τ Cert.KernelIdeal.sig) → Buf (Elt F) ℓ)
    (h : ∀ c, Decoded (m ((SparseCore.T c).loc Cert.KernelIdeal.main_arg0)) (m ((SparseCore.T c).loc Cert.KernelIdeal.main_arg1))) :
    PreOK m := by
  intro d j
  unfold XT TAB
  rw [sliced_apply]
  exact (h d).inside _

end Cert.Proof.OneHot

end
-- ==== Proof.Guess.lean ====
/-
  The kernel's first guess at a value's bin, read over the extended reals: which side of the whole numbers thirty-one
  times the value lies on, from the guess alone.
-/
module

public import proofs.«01_k».proof.Proof.Lanes
public import Idealize.ShloMosaic.PureOps.Ideal.Laws
public import Idealize.ShloMosaic.Lib.IdealHost
public import Mathlib.Tactic.NormNum
public import Mathlib.Tactic.Linarith
public import Mathlib.Tactic.Positivity

@[expose] public section

namespace Cert.Proof.OneHot

open Cert.KernelIdeal Idealize.ShloMosaic

/-- The pattern `0x41F80000` is the real thirty-one. -/
theorem ofBits_31 : Ideal.ofBits .f32 0x41F80000#32 = ((31 : ℝ) : EReal) := by
  simp [Ideal.ofBits, Ideal.ieee, -EReal.coe_mul]; norm_num

/-- The pattern `0x4C842108` is the real 69273664. -/
theorem ofBits_bound : Ideal.ofBits .f32 0x4C842108#32 = ((69273664 : ℝ) : EReal) := by
  simp [Ideal.ofBits, Ideal.ieee, -EReal.coe_mul]; norm_num

/-- One more than a word that is not the largest, clipped to `0 … 32`. -/
theorem clip_spec (n : ℤ) (lo : -2147483648 ≤ n) (hi : n ≤ 2147483646) :
    ((IntOp.minsi 32#32 (IntOp.maxsi 0#32 (IntOp.addi (BitVec.ofInt 32 n) 1#32))).toNat : ℤ) = min 32 (max 0 (n + 1)) := by
  have e : (IntOp.addi (BitVec.ofInt 32 n) 1#32).toInt = n + 1 := by
    unfold IntOp.addi
    rw [BitVec.toInt_add, BitVec.toInt_ofInt, show (1#32).toInt = 1 by decide]
    simp only [Int.bmod]
    omega
  generalize IntOp.addi (BitVec.ofInt 32 n) 1#32 = w at e
  have z : (0#32).toInt = 0 := by decide
  have t : (32#32).toInt = 32 := by decide
  have c := BitVec.toInt_eq_toNat_cond w
  have hw := w.isLt
  unfold IntOp.maxsi
  split <;> rename_i h <;> rw [BitVec.slt_eq_decide, decide_eq_true_eq] at h
  · rw [show (IntOp.minsi 32#32 0#32).toNat = 0 by decide]
    omega
  · unfold IntOp.minsi
    split <;> rename_i h' <;> rw [BitVec.slt_eq_decide, decide_eq_true_eq] at h'
    · rw [show (32#32).toNat = 32 by decide]
      omega
    · split at c <;> omega

/-- What the guess `g` says of thirty-one times the value: at most `-1` for the guess 0; below `g` for a guess under 32;
    at least `g - 1` for a guess from 2 on. -/
structure Tells (g : ℕ) (y : EReal) : Prop where
  none : g = 0 → y ≤ ((-1 : ℝ) : EReal)
  below : 1 ≤ g → g ≤ 31 → y < ((g : ℝ) : EReal)
  above : 2 ≤ g → (((g : ℝ) - 1 : ℝ) : EReal) ≤ y

/-- The guess's word made from a value `y ≤ 2147483584` tells where `y` lies. -/
theorem word_tells (y : EReal) (hy : y ≤ ((2147483584 : ℝ) : EReal)) :
    Tells (IntOp.minsi 32#32 (IntOp.maxsi 0#32 (IntOp.addi (Ideal.fptosi 32 y) 1#32))).toNat y := by
  unfold Ideal.fptosi
  rw [show (-((2 ^ (32 - 1) : ℕ) : ℤ)) = -2147483648 by norm_num, show (((2 ^ (32 - 1) : ℕ) : ℤ) - 1) = 2147483647 by norm_num]
  induction y with
  | bot =>
    have s := clip_spec (-2147483648) (by omega) (by omega)
    rw [Ideal.toIntClamped_bot]
    constructor
    · exact fun _ => bot_le
    · intro h _
      omega
    · intro h
      omega
  | top => exact absurd hy (not_le.mpr (EReal.coe_lt_top _))
  | coe r =>
    rw [Ideal.toIntClamped_coe]
    have hr : r ≤ 2147483584 := EReal.coe_le_coe_iff.mp hy
    rcases le_or_gt 0 r with h0 | h0
    · rw [if_pos h0]
      have f0 : 0 ≤ ⌊r⌋ := Int.floor_nonneg.mpr h0
      have f1 : ⌊r⌋ ≤ 2147483584 := by
        have := Int.floor_le_floor hr
        rwa [show ((2147483584 : ℝ)) = ((2147483584 : ℤ) : ℝ) by norm_num, Int.floor_intCast] at this
      have e : max (-2147483648) (min 2147483647 ⌊r⌋) = ⌊r⌋ := by omega
      rw [e]
      have s := clip_spec ⌊r⌋ (by omega) (by omega)
      generalize (IntOp.minsi 32#32 (IntOp.maxsi 0#32 (IntOp.addi (BitVec.ofInt 32 ⌊r⌋) 1#32))).toNat = g at s
      have l1 := Int.lt_floor_add_one r
      have l2 := Int.floor_le r
      constructor
      · intro h
        omega
      · intro h h'
        have : ((⌊r⌋ + 1 : ℤ) : ℝ) = ((g : ℤ) : ℝ) := by
          congr 1
          omega
        push_cast at this
        refine EReal.coe_lt_coe_iff.mpr ?_
        linarith
      · intro h
        have : ((g : ℤ) : ℝ) ≤ ((⌊r⌋ + 1 : ℤ) : ℝ) := Int.cast_le.mpr (by omega)
        push_cast at this
        refine EReal.coe_le_coe_iff.mpr ?_
        linarith
    · rw [if_neg (not_le.mpr h0)]
      have f0 : ⌈r⌉ ≤ 0 := Int.ceil_le.mpr (by simpa using h0.le)
      have s := clip_spec (max (-2147483648) (min 2147483647 ⌈r⌉)) (by omega) (by omega)
      generalize (IntOp.minsi 32#32 (IntOp.maxsi 0#32 (IntOp.addi (BitVec.ofInt 32 (max (-2147483648) (min 2147483647 ⌈r⌉))) 1#32))).toNat = g at s
      constructor
      · intro h
        have c : ⌈r⌉ ≤ -1 := by omega
        have := Int.ceil_le.mp c
        push_cast at this
        exact EReal.coe_le_coe_iff.mpr this
      · intro h _
        refine EReal.coe_lt_coe_iff.mpr ?_
        have : (0 : ℝ) ≤ g := Nat.cast_nonneg g
        linarith
      · intro h
        omega

/-- Thirty-one times a value that is at most 69273664 is at most 2147483584. -/
theorem scaled_le {x : EReal} (h : x ≤ ((69273664 : ℝ) : EReal)) : x * ((31 : ℝ) : EReal) ≤ ((2147483584 : ℝ) : EReal) := by
  induction x with
  | bot => rw [EReal.bot_mul_coe_of_pos (by norm_num)]; exact bot_le
  | top => exact absurd h (not_le.mpr (EReal.coe_lt_top _))
  | coe r =>
    rw [← EReal.coe_mul]
    have := EReal.coe_le_coe_iff.mp h
    exact EReal.coe_le_coe_iff.mpr (by linarith)

/-- Scaling by thirty-one keeps and reflects the order. -/
theorem scaled_le_iff {a b : EReal} : a * ((31 : ℝ) : EReal) ≤ b * ((31 : ℝ) : EReal) ↔ a ≤ b := by
  have p : (0 : ℝ) < 31 := by norm_num
  have q (r : ℝ) : (r : EReal) * ((31 : ℝ) : EReal) = ((r * 31 : ℝ) : EReal) := (EReal.coe_mul r 31).symm
  induction a <;> induction b <;> simp only [EReal.bot_mul_coe_of_pos p, EReal.top_mul_coe_of_pos p, q] <;>
    simp [-EReal.coe_mul]

/-- The kernel's guess at a value that is at most 69273664 tells where thirty-one times the value lies. -/
theorem guess_tells (x : EReal) (hx : x ≤ ((69273664 : ℝ) : EReal)) :
    Tells (guess (F := Ideal) x).toNat (x * ((31 : ℝ) : EReal)) := by
  have e : guess (F := Ideal) x
      = IntOp.minsi 32#32 (IntOp.maxsi 0#32 (IntOp.addi (Ideal.fptosi 32 (x * ((31 : ℝ) : EReal))) 1#32)) := by
    rw [← ofBits_31]
    rfl
  rw [e]
  exact word_tells _ (scaled_le hx)

end Cert.Proof.OneHot
-- ==== Proof.Bins.lean ====
/-
  Over the extended reals, the bin the kernel puts a value in is the one bin the value lies in.

  The breaks are taken non-decreasing, the value between the first and the last, and each inner break near its whole
  number of thirty-firsts: then the guess is off by at most one, and the two comparisons with the table put it right.
-/
module

public import proofs.«01_k».proof.Proof.Guess

@[expose] public section

namespace Cert.Proof.OneHot

open Cert.KernelIdeal Idealize.ShloMosaic

/-- What is asked of the breaks: they do not decrease; thirty-one times break `k` is at least `k - 2` for `k` from 2 on,
    and at most `k` for `k` from 1 to 31. -/
structure Fits (b : ℕ → EReal) : Prop where
  mono : ∀ k : ℕ, k < 33 → b k ≤ b (k + 1)
  low : ∀ k : ℕ, 2 ≤ k → k ≤ 32 → (((k : ℝ) - 2 : ℝ) : EReal) ≤ b k * ((31 : ℝ) : EReal)
  high : ∀ k : ℕ, 1 ≤ k → k ≤ 31 → b k * ((31 : ℝ) : EReal) ≤ ((k : ℝ) : EReal)

/-- Breaks that do not decrease are in order. -/
theorem Fits.le {b : ℕ → EReal} (h : Fits b) {i : ℕ} : ∀ {j : ℕ}, i ≤ j → j ≤ 33 → b i ≤ b j := by
  intro j hij
  induction hij with
  | refl => exact fun _ => le_rfl
  | step _ ih => exact fun h' => (ih (by omega)).trans (h.mono _ (by omega))

/-- The bin after a guess `g` whose next break is not above `x` holds `x`. -/
theorem Fits.up {b : ℕ → EReal} (h : Fits b) {x : EReal} {g : ℕ} (hg : g ≤ 31) (t : Tells g (x * ((31 : ℝ) : EReal)))
    (top : x < b 33) : x < b (g + 2) := by
  rcases Nat.lt_or_ge g 31 with h31 | h31
  · have l := h.low (g + 2) (by omega) (by omega)
    have e : ((g + 2 : ℕ) : ℝ) - 2 = g := by push_cast; ring
    rw [e] at l
    refine lt_of_not_ge fun hb => ?_
    have s := l.trans (scaled_le_iff.mpr hb)
    rcases Nat.eq_zero_or_pos g with h0 | h0
    · subst h0
      have c := EReal.coe_le_coe_iff.mp (s.trans (t.none rfl))
      norm_num at c
    · exact absurd (t.below h0 hg) (not_lt.mpr s)
  · obtain rfl : g = 31 := by omega
    exact top

/-- The bin before a guess `g` whose own break is above `x` holds `x`. -/
theorem Fits.down {b : ℕ → EReal} (h : Fits b) {x : EReal} {g : ℕ} (hg : g ≤ 31) (t : Tells (g + 1) (x * ((31 : ℝ) : EReal)))
    (bot : b 0 ≤ x) : b g ≤ x := by
  rcases Nat.eq_zero_or_pos g with h0 | h0
  · subst h0
    exact bot
  · refine scaled_le_iff.mp ((h.high g h0 hg).trans ?_)
    have a := t.above (by omega)
    have e : ((g + 1 : ℕ) : ℝ) - 1 = g := by push_cast; ring
    rwa [e] at a

/-- The bit of a comparison, as a number. -/
theorem bit_toNat (p : Prop) [Decidable p] : (BitVec.ofBool (decide p)).toNat = if p then 1 else 0 := by
  by_cases h : p <;> simp [h]

/-- The bit of a comparison that fails is not one. -/
theorem bit_ne {p : Prop} [Decidable p] (h : ¬p) : BitVec.ofBool (decide p) ≠ 1#1 := by
  rw [decide_eq_false h]
  decide

/-- The bin of a value holds the value: its break is at or below it, the next one above. -/
theorem bin_holds (B : S48.Idx → EReal) (x : EReal) (h : Fits fun k => B (entry k)) (hx : x ≤ ((69273664 : ℝ) : EReal))
    (bot : B (entry 0) ≤ x) (top : x < B (entry 33)) :
    (bin (F := Ideal) B x).toNat < 33
      ∧ B (entry (bin (F := Ideal) B x).toNat) ≤ x ∧ x < B (entry ((bin (F := Ideal) B x).toNat + 1)) := by
  have hg := guess_le (F := Ideal) x
  have t := guess_tells x hx
  obtain ⟨e, lt⟩ := correct_lt (guess (F := Ideal) x) (BitVec.ofBool (decide (B (entry ((guess (F := Ideal) x).toNat + 1)) ≤ x)))
    (BitVec.ofBool (decide (x < B (entry (guess (F := Ideal) x).toNat)))) hg
    (fun e => by rw [e]; exact bit_ne (not_le.mpr top)) (fun e => by rw [e]; exact bit_ne (not_lt.mpr bot))
  have e' : (bin (F := Ideal) B x).toNat = _ := e
  rw [← e] at lt
  rw [e']
  refine ⟨e ▸ lt, ?_⟩
  clear e e' lt
  generalize (guess (F := Ideal) x).toNat = g at *
  rw [bit_toNat, bit_toNat]
  by_cases u : B (entry (g + 1)) ≤ x <;> by_cases v : x < B (entry g)
  · exfalso
    have g32 : g ≠ 32 := fun e => absurd u (by rw [e]; exact not_le.mpr top)
    exact absurd (u.trans_lt v) (not_lt.mpr (h.mono g (by omega)))
  · have g32 : g ≠ 32 := fun e => absurd u (by rw [e]; exact not_le.mpr top)
    rw [if_pos u, if_neg v]
    exact ⟨u, h.up (by omega) t top⟩
  · rw [if_neg u, if_pos v]
    obtain _ | g := g
    · exact absurd v (not_lt.mpr bot)
    · exact ⟨h.down (by omega) t bot, v⟩
  · rw [if_neg u, if_neg v]
    exact ⟨not_lt.mp v, not_le.mp u⟩

/-- A value lies in bin `k` exactly when `k` is its bin. -/
theorem bin_iff (B : S48.Idx → EReal) (x : EReal) (h : Fits fun k => B (entry k)) (hx : x ≤ ((69273664 : ℝ) : EReal))
    (bot : B (entry 0) ≤ x) (top : x < B (entry 33)) (k : ℕ) (hk : k < 33) :
    (bin (F := Ideal) B x).toNat = k ↔ B (entry k) ≤ x ∧ x < B (entry (k + 1)) := by
  obtain ⟨lt, lo, hi⟩ := bin_holds B x h hx bot top
  refine ⟨fun e => e ▸ ⟨lo, hi⟩, fun ⟨lo', hi'⟩ => ?_⟩
  generalize (bin (F := Ideal) B x).toNat = j at *
  rcases Nat.lt_trichotomy j k with c | c | c
  · exact absurd (h.le (show j + 1 ≤ k from c) (by omega)) (not_le.mpr (lo'.trans_lt hi))
  · exact c
  · exact absurd (h.le (show k + 1 ≤ j from c) (by omega)) (not_le.mpr (lo.trans_lt hi'))

end Cert.Proof.OneHot
-- ==== Proof.Values.lean ====
/-
  Over the extended reals the kernel's result is the reference's: the one-hot row a value's bin names is the row of the
  interval tests.
-/
module

public import proofs.«01_k».proof.Proof.Given
public import proofs.«01_k».proof.Proof.Bins
public import proofs.«01_k».proof.Proof.Gen.ReferenceIdeal

@[expose] public section

noncomputable section

namespace Cert.Proof.OneHot

open Idealize.ShloMosaic

/-- A comparison bit that is not one is a comparison that fails. -/
theorem of_bit_ne {p : Prop} [Decidable p] (h : BitVec.ofBool (decide p) ≠ 1#1) : ¬p := fun hp => h (by rw [decide_eq_true hp]; rfl)

variable {x : Cert.KernelIdeal.S4096x200.Idx → Ideal .f32} {a : Cert.KernelIdeal.S34.Idx → Ideal .f32}

/-- A small natural number as a float is that real. -/
theorem natural (k : ℕ) (hk : k < 31) : FloatOps.sitofp (F := Ideal) .f32 (BitVec.ofNat 32 k) = ((k : ℝ) : EReal) := by
  show (((BitVec.ofNat 32 k).toInt : ℝ) : EReal) = _
  have e : (BitVec.ofNat 32 k).toInt = k := by
    have c := BitVec.toInt_eq_toNat_cond (BitVec.ofNat 32 k)
    rw [BitVec.toNat_ofNat] at c
    split at c <;> omega
  rw [e]
  simp

/-- The precondition makes the table's breaks fit the bins. -/
theorem Decoded.fits (h : Decoded x a) : Fits fun k => padded a (Cert.Proof.OneHot.entry k) where
  mono k hk := by
    show padded a (entry k) ≤ padded a (entry (k + 1))
    rw [padded_entry a k (by omega), padded_entry a (k + 1) (by omega)]
    exact not_lt.mp (of_bit_ne (h.mono k hk))
  low k h2 hk := by
    show _ ≤ padded a (entry k) * _
    rw [padded_entry a k (by omega)]
    obtain ⟨j, rfl⟩ := Nat.exists_eq_add_of_le' h2
    have l := not_lt.mp (of_bit_ne (h.low j (by omega)))
    have l' : FloatOps.sitofp (F := Ideal) .f32 (BitVec.ofNat 32 j) ≤ a (brk (j + 2)) * Ideal.ofBits .f32 0x41F80000#32 := l
    rw [natural j (by omega), ofBits_31] at l'
    rw [show (((j + 2 : ℕ) : ℝ) - 2) = j by push_cast; ring]
    exact l'
  high k h1 hk := by
    show padded a (entry k) * _ ≤ _
    rw [padded_entry a k (by omega)]
    obtain ⟨j, rfl⟩ := Nat.exists_eq_add_of_le' h1
    have l := not_lt.mp (of_bit_ne (h.high j (by omega)))
    have l' : a (brk (j + 1)) * Ideal.ofBits .f32 0x41F80000#32 ≤ FloatOps.sitofp (F := Ideal) .f32 (BitVec.ofNat 32 j) + Ideal.ofBits .f32 0x3F800000#32 := l
    rw [natural j (by omega), ofBits_31, Ideal.ofBits_one_f32] at l'
    refine l'.trans (le_of_eq ?_)
    push_cast
    rfl

/-- A value is in bin `k` exactly when it passes bin `k`'s two tests. -/
theorem Decoded.bin_iff (h : Decoded x a) (i : Cert.KernelIdeal.S4096x200.Idx) (k : ℕ) (hk : k < 33) :
    (bin (F := Ideal) (padded a) (x i)).toNat = k ↔ a (brk k) ≤ x i ∧ x i < a (brk (k + 1)) := by
  have top : x i ≤ Ideal.ofBits .f32 0x4C842108#32 := not_lt.mp (of_bit_ne (h.bound i))
  rw [ofBits_bound] at top
  have b0 : padded a (entry 0) ≤ x i := by
    rw [padded_entry a 0 (by decide)]
    exact not_lt.mp (of_bit_ne (h.first i))
  have b33 : x i < padded a (entry 33) := by
    rw [padded_entry a 33 (by decide)]
    exact not_le.mp (of_bit_ne (h.last i))
  rw [OneHot.bin_iff (padded a) (x i) h.fits top b0 b33 k hk, padded_entry a k (by omega), padded_entry a (k + 1) (by omega)]

open Cert.ReferenceIdeal in
/-- The reference's result, as its operations compose it, of an input and breaks. -/
def tests (x : S4096x200.Idx → Ideal .f32) (a : S34.Idx → Ideal .f32) : S4096x200x33.Idx → Ideal .f32 :=
  let xs := broadcastInDim S4096x200x33 ![0, 1, 2] Gen.bcast_S4096x200x1_S4096x200x33_0_1_2
    (broadcastInDim S4096x200x1 ![0, 1] Gen.bcast_S4096x200_S4096x200x1_0_1 x)
  uitofp (F := Ideal) .f32 (andi
    (cmpf (F := Ideal) .ole (broadcastInDim S4096x200x33 ![0, 1, 2] Gen.bcast_S1x1x33_S4096x200x33_0_1_2
      (broadcastInDim S1x1x33 ![2] Gen.bcast_S33_S1x1x33_2 (extractStridedSlice S33 ![0] a Gen.slices_S34_S33_0))) xs)
    (cmpf (F := Ideal) .olt xs (broadcastInDim S4096x200x33 ![0, 1, 2] Gen.bcast_S1x1x33_S4096x200x33_0_1_2
      (broadcastInDim S1x1x33 ![2] Gen.bcast_S33_S1x1x33_2 (extractStridedSlice S33 ![1] a Gen.slices_S34_S33_1)))))

/-- The input spread over the bins, read at an element of the result. -/
theorem spread_input (h1 : Cert.ReferenceIdeal.S4096x200x1.BroadcastsInDim Cert.ReferenceIdeal.S4096x200x33 ![0, 1, 2])
    (h2 : Cert.ReferenceIdeal.S4096x200.BroadcastsInDim Cert.ReferenceIdeal.S4096x200x1 ![0, 1])
    (i : Cert.KernelIdeal.S4096x200x33.Idx) :
    broadcastInDim Cert.ReferenceIdeal.S4096x200x33 ![0, 1, 2] h1 (broadcastInDim Cert.ReferenceIdeal.S4096x200x1 ![0, 1] h2 x) i = x (cellOf i) := by
  let k : Cert.ReferenceIdeal.S4096x200x1.Idx := fun b => match b with
    | 0 => i 0 | 1 => i 1 | 2 => ⟨0, by decide⟩
  refine (broadcastInDim_apply _ _ _ _ k fun b => ?_).trans (broadcastInDim_apply _ _ _ _ _ fun b => ?_)
  · match b with
    | 0 => rfl
    | 1 => rfl
    | 2 => rfl
  · match b with
    | 0 => rfl
    | 1 => rfl

/-- The breaks from place `n` on spread over the input, read at an element of the result. -/
theorem spread_breaks (n : ℕ) (h0 : Cert.KernelIdeal.S34.Slices ![n] Cert.ReferenceIdeal.S33)
    (h1 : Cert.ReferenceIdeal.S1x1x33.BroadcastsInDim Cert.ReferenceIdeal.S4096x200x33 ![0, 1, 2])
    (h2 : Cert.ReferenceIdeal.S33.BroadcastsInDim Cert.ReferenceIdeal.S1x1x33 ![2])
    (i : Cert.KernelIdeal.S4096x200x33.Idx) (hn : n ≤ 1) :
    broadcastInDim Cert.ReferenceIdeal.S4096x200x33 ![0, 1, 2] h1
      (broadcastInDim Cert.ReferenceIdeal.S1x1x33 ![2] h2 (extractStridedSlice Cert.ReferenceIdeal.S33 ![n] a h0)) i = a (brk ((i 2).val + n)) := by
  have lt : (i 2).val < 33 := (i 2).isLt
  let k : Cert.ReferenceIdeal.S1x1x33.Idx := fun b => match b with
    | 0 => ⟨0, by decide⟩ | 1 => ⟨0, by decide⟩ | 2 => i 2
  refine (broadcastInDim_apply _ _ _ _ k fun b => ?_).trans
    ((broadcastInDim_apply _ _ _ _ (ofNat (i 2).val lt) fun b => ?_).trans (slice_brk n a h0 _ _ (by omega) (Nat.add_comm _ _)))
  · match b with
    | 0 => rfl
    | 1 => rfl
    | 2 => rfl
  · match b with
    | 0 => rfl

/-- The kernel's result is the reference's. -/
theorem Decoded.result (h : Decoded x a) : unsliced (OUT (padded a) (sliced x)) = tests x a := by
  funext i
  have lt : (i 2).val < 33 := (i 2).isLt
  rw [result_apply]
  have r : tests x a i = FloatOps.uitofp (F := Ideal) .f32 (IntOp.andi (BitVec.ofBool (decide (a (brk ((i 2).val + 0)) ≤ x (cellOf i))))
      (BitVec.ofBool (decide (x (cellOf i) < a (brk ((i 2).val + 1)))))) := by
    rw [← spread_input (x := x) Cert.ReferenceIdeal.Gen.bcast_S4096x200x1_S4096x200x33_0_1_2 Cert.ReferenceIdeal.Gen.bcast_S4096x200_S4096x200x1_0_1 i,
      ← spread_breaks (a := a) 0 Cert.ReferenceIdeal.Gen.slices_S34_S33_0 Cert.ReferenceIdeal.Gen.bcast_S1x1x33_S4096x200x33_0_1_2 Cert.ReferenceIdeal.Gen.bcast_S33_S1x1x33_2 i (by decide),
      ← spread_breaks (a := a) 1 Cert.ReferenceIdeal.Gen.slices_S34_S33_1 Cert.ReferenceIdeal.Gen.bcast_S1x1x33_S4096x200x33_0_1_2 Cert.ReferenceIdeal.Gen.bcast_S33_S1x1x33_2 i (by decide)]
    rfl
  rw [r, Nat.add_zero]
  have one' : (one : Ideal .f32) = ((((1#1).toNat : ℝ)) : EReal) := (Ideal.ofBits_one_f32).trans (by simp)
  have zero' : (zero : Ideal .f32) = ((((0#1).toNat : ℝ)) : EReal) := (Ideal.ofBits_zero_f32).trans (by simp)
  have key := h.bin_iff (cellOf i) (i 2).val lt
  by_cases lo : a (brk (i 2).val) ≤ x (cellOf i) <;> by_cases hi : x (cellOf i) < a (brk ((i 2).val + 1))
  · rw [if_pos (key.mpr ⟨lo, hi⟩), decide_eq_true lo, decide_eq_true hi, one']
    rfl
  all_goals
    rw [if_neg fun e => by simp_all [key.mp e]]
    simp only [lo, hi, decide_true, decide_false]
    rw [zero']
    rfl

end Cert.Proof.OneHot

end
-- ==== Proof.Ends.lean ====
/-
  How the kernel's and the reference's runs end, from the claims' own preconditions.
-/
module

public import proofs.«01_k».proof.Proof.Main
public import proofs.«01_k».proof.Proof.Values
public import proofs.«01_k».proof.Proof.Gen.ReferenceIdeal.Run
public import Idealize.ShloMosaic.Lib.Quiescent

@[expose] public section

noncomputable section

namespace Cert.Proof.OneHot

open Idealize.ShloMosaic Idealize.ShloMosaic.TcCoe Idealize.SL.Sem

/-- The kernel's program run over any float values, from arguments the precondition admits. -/
theorem kernel_ends {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg)
    (h : ∀ c : Dev Cert.KernelIdeal.nD, Cert.Pre_breaks_fit.fn (F := F)
      (m ((SparseCore.T c).loc Cert.KernelIdeal.main_arg0)) (m ((SparseCore.T c).loc Cert.KernelIdeal.main_arg1)) = fun _ => 1#1) :
    θ_run (Cert.KernelIdeal.defs (F := F)) (Cert.KernelIdeal.threads (F := F)) ⟨m, fun _ => 0, ρ⟩ (QC m) :=
  run_main m ρ (pre_ok m fun c => decoded _ _ (h c))

/-- The reference's program run: the interval tests, the arguments kept, the counters at zero. -/
theorem reference_ends (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => (∀ c : Dev Cert.ReferenceIdeal.nD,
        r.2.mem ((c.tc : Thread Cert.ReferenceIdeal.nD Cert.ReferenceIdeal.τ).loc Cert.ReferenceIdeal.main_v12)
            = tests (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
          ∧ r.2.mem ((c.tc : Thread Cert.ReferenceIdeal.nD Cert.ReferenceIdeal.τ).loc Cert.ReferenceIdeal.main_arg0)
              = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
              = m ((c.tc : Thread Cert.ReferenceIdeal.nD Cert.ReferenceIdeal.τ).loc Cert.ReferenceIdeal.main_arg1))
        ∧ r.2.sem = fun _ => 0 :=
  (θ_run Cert.ReferenceIdeal.defs _ _).mono (fun r h => ⟨h, sem_eq_zero_of_no_sems (by decide) r.2⟩)
    (Cert.ReferenceIdeal.Value.run (F := Ideal) m ρ)

end Cert.Proof.OneHot

end
-- ==== Proof.lean ====
/-
  The proof of `Cert.Claim`: the frames of the kernel (at the machine's floats and at the extended reals) and of the
  reference, and the equality of their results over the extended reals.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Ends
public import Idealize.ShloMosaic.Adequacy
public import Idealize.ShloMosaic.Init

@[expose] public section

noncomputable section

namespace Cert.Proof

open Idealize.ShloMosaic Idealize.SL.Sem

/-- The kernel's frame at the machine's floats. -/
theorem frame_kernel : Cert.quiescent_Kernel := fun m ρ h =>
  (θ_run Cert.KernelIdeal.defs _ _).mono (fun _ q => ⟨fun c => ⟨(q.1 c).1, (q.1 c).2.1⟩, q.2⟩) (OneHot.kernel_ends (F := Bits) m ρ h)

/-- The kernel's frame over the extended reals. -/
theorem frame_ideal : Cert.quiescent_KernelIdeal := fun m ρ h =>
  (θ_run Cert.KernelIdeal.defs _ _).mono (fun _ q => ⟨fun c => ⟨(q.1 c).1, (q.1 c).2.1⟩, q.2⟩) (OneHot.kernel_ends (F := Ideal) m ρ h)

/-- The reference's frame. -/
theorem frame_reference : Cert.quiescent_ReferenceIdeal := fun m ρ _ =>
  (θ_run Cert.ReferenceIdeal.defs _ _).mono (fun _ q => ⟨fun c => (q.1 c).2, q.2⟩) (OneHot.reference_ends m ρ)

/-- The results agree over the extended reals. -/
theorem results_agree : Cert.algebraic_KernelIdeal_ReferenceIdeal := by
  intro m ρ m' ρ' h same
  refine ⟨fun c => OneHot.RES m c, ?_, ?_⟩
  · exact (θ_run Cert.KernelIdeal.defs _ _).mono (fun _ q c => ⟨(q.1 c).2.2, (q.1 c).1, (q.1 c).2.1⟩) (OneHot.kernel_ends (F := Ideal) m ρ h)
  · refine (θ_run Cert.ReferenceIdeal.defs _ _).mono (fun _ q c => ⟨(q.1 c).1.trans ?_, (q.1 c).2⟩) (OneHot.reference_ends m' ρ')
    rw [(same c).1, (same c).2]
    exact (OneHot.decoded _ _ (h c)).result.symm

theorem claim : Cert.Claim := ⟨Cert.Kernel.Gen.facts, Cert.KernelIdeal.Gen.facts, Cert.ReferenceIdeal.Gen.facts, OneHot.pre_facts,
  frame_kernel, frame_ideal, frame_reference, fun m ρ _ => frame_reference m ρ trivial, trivial, results_agree⟩

end Cert.Proof

end
